-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x4096 : Shape := ⟨3, ![16, 64, 4096]⟩
abbrev S8x1024x64 : Shape := ⟨3, ![8, 1024, 64]⟩
abbrev S_ : Shape := ⟨0, ![]⟩

class Facts : Prop where
  bcast_S_S16x64x4096 : S_.BroadcastsInDim S16x64x4096 (![] : Fin 0 → Fin S16x64x4096.rank)
  bcast_S_S8x1024x64 : S_.BroadcastsInDim S8x1024x64 (![] : Fin 0 → Fin S8x1024x64.rank)

variable [Facts]

def fn {F : FTy → Type} [FloatOps F] (main_arg0 : FVec F S16x64x4096 .f32) (main_arg1 : FVec F S8x1024x64 .f32) : IVec S16x64x4096 1 × IVec S8x1024x64 1 :=
  let main_v0 : FVec F S16x64x4096 .f32 := Host.absf main_arg0
  let main_cst : FVec F S_ .f32 := constant S_ .f32 0x7F800000#32
  let main_v1 : FVec F S16x64x4096 .f32 := broadcastInDim S16x64x4096 ![] bcast_S_S16x64x4096 main_cst
  let main_v2 : IVec S16x64x4096 1 := cmpf .olt main_v0 main_v1
  let main_v3 : FVec F S8x1024x64 .f32 := Host.absf main_arg1
  let main_cst_0 : FVec F S_ .f32 := constant S_ .f32 0x7F800000#32
  let main_v4 : FVec F S8x1024x64 .f32 := broadcastInDim S8x1024x64 ![] bcast_S_S8x1024x64 main_cst_0
  let main_v5 : IVec S8x1024x64 1 := cmpf .olt main_v3 main_v4
  (main_v2, main_v5)
-- ==== Kernel.lean ====
abbrev S16x64x4096 : Shape := ⟨3, ![16, 64, 4096]⟩
abbrev S8x1024x64 : Shape := ⟨3, ![8, 1024, 64]⟩
abbrev S16x4096x64 : Shape := ⟨3, ![16, 4096, 64]⟩
abbrev S65536x64 : Shape := ⟨2, ![65536, 64]⟩
abbrev S_ : Shape := ⟨0, ![]⟩
abbrev S8x1024 : Shape := ⟨2, ![8, 1024]⟩
abbrev S1x1 : Shape := ⟨2, ![1, 1]⟩
abbrev S1024x64 : Shape := ⟨2, ![1024, 64]⟩
abbrev S1x1024x64 : Shape := ⟨3, ![1, 1024, 64]⟩
abbrev S256x64 : Shape := ⟨2, ![256, 64]⟩
abbrev S256x1024 : Shape := ⟨2, ![256, 1024]⟩
abbrev S8x256 : Shape := ⟨2, ![8, 256]⟩
abbrev S256 : Shape := ⟨1, ![256]⟩
abbrev S256x1 : Shape := ⟨2, ![256, 1]⟩
abbrev S1x1024 : Shape := ⟨2, ![1, 1024]⟩
abbrev S1024 : Shape := ⟨1, ![1024]⟩
abbrev S1x256x1 : Shape := ⟨3, ![1, 256, 1]⟩
abbrev S1 : Shape := ⟨1, ![1]⟩
abbrev S1x1x1 : Shape := ⟨3, ![1, 1, 1]⟩
abbrev S8 : Shape := ⟨1, ![8]⟩
abbrev S1x8 : Shape := ⟨2, ![1, 8]⟩

abbrev nBuf : Space → Nat
  | .hbm => 19
  | .vmem => 12
  | .smem => 0
  | _ => 0

abbrev bufTy : (tb : Table) → Fin (tcTables nBuf tb) → BufTy
  | .hbm, ⟨0, _⟩ => ⟨S16x64x4096, .f32⟩
  | .hbm, ⟨1, _⟩ => ⟨S8x1024x64, .f32⟩
  | .hbm, ⟨2, _⟩ => ⟨S16x4096x64, .f32⟩
  | .hbm, ⟨3, _⟩ => ⟨S65536x64, .f32⟩
  | .hbm, ⟨4, _⟩ => ⟨S8x1024x64, .f32⟩
  | .hbm, ⟨5, _⟩ => ⟨S_, .f32⟩
  | .hbm, ⟨6, _⟩ => ⟨S8x1024, .f32⟩
  | .hbm, ⟨7, _⟩ => ⟨S65536x64, .f32⟩
  | .hbm, ⟨8, _⟩ => ⟨S1x1, .f32⟩
  | .hbm, ⟨9, _⟩ => ⟨S1x1, .f32⟩
  | .hbm, ⟨10, _⟩ => ⟨S8x1024, .f32⟩
  | .hbm, ⟨11, _⟩ => ⟨S16x4096x64, .f32⟩
  | .hbm, ⟨12, _⟩ => ⟨S16x64x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S8x1024x64, .f32⟩
  | .local _ .vmem, ⟨3, _⟩ => ⟨S8x1024, .f32⟩
  | .local _ .vmem, ⟨4, _⟩ => ⟨S1024x64, .f32⟩
  | .local _ .vmem, ⟨5, _⟩ => ⟨S1024x64, .f32⟩
  | .local _ .vmem, ⟨6, _⟩ => ⟨S1x1, .f32⟩
  | .local _ .vmem, ⟨7, _⟩ => ⟨S1x1, .f32⟩
  | .local _ .vmem, ⟨8, _⟩ => ⟨S8x1024, .f32⟩
  | .local _ .vmem, ⟨9, _⟩ => ⟨S8x1024x64, .bf16⟩
  | .local _ .vmem, ⟨10, _⟩ => ⟨S8x1024x64, .bf16⟩
  | .local _ .vmem, ⟨11, _⟩ => ⟨S8x1024x64, .bf16⟩
  | _, _ => ⟨S16x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v2 : BitVec 32 := Scalar.extui v0
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c63_i32 : BitVec 32 := 63#32
  let v1 : BitVec 1 := Scalar.cmpi .eq arg0 c63_i32
  let v1630 : BitVec 32 := Scalar.extui v1
  let c0_i32_813 : BitVec 32 := 0#32
  let v1631 : BitVec 1 := Scalar.cmpi .ne v1630 c0_i32_813
  v1631

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x64x4096 : Shape := ⟨3, ![16, 64, 4096]⟩
abbrev S8x1024x64 : Shape := ⟨3, ![8, 1024, 64]⟩
abbrev S16x4096x64 : Shape := ⟨3, ![16, 4096, 64]⟩
abbrev S_ : Shape := ⟨0, ![]⟩
abbrev S8 : Shape := ⟨1, ![8]⟩
abbrev S1x1024x64 : Shape := ⟨3, ![1, 1024, 64]⟩
abbrev S1024x64 : Shape := ⟨2, ![1024, 64]⟩
abbrev S65536x64 : Shape := ⟨2, ![65536, 64]⟩
abbrev S65536 : Shape := ⟨1, ![65536]⟩
abbrev S65536x1 : Shape := ⟨2, ![65536, 1]⟩
abbrev S64x1024 : Shape := ⟨2, ![64, 1024]⟩
abbrev S65536x1024 : Shape := ⟨2, ![65536, 1024]⟩
abbrev S1024 : Shape := ⟨1, ![1024]⟩
abbrev S1x1024 : Shape := ⟨2, ![1, 1024]⟩
abbrev S1 : Shape := ⟨1, ![1]⟩

abbrev nBuf : Space → Nat
  | .hbm => 105
  | .vmem => 0
  | .smem => 0
  | _ => 0

abbrev bufTy : (tb : Table) → Fin (tcTables nBuf tb) → BufTy
  | .hbm, ⟨0, _⟩ => ⟨S16x64x4096, .f32⟩
  | .hbm, ⟨1, _⟩ => ⟨S8x1024x64, .f32⟩
  | .hbm, ⟨2, _⟩ => ⟨S16x4096x64, .f32⟩
  | .hbm, ⟨3, _⟩ => ⟨S_, .f32⟩
  | .hbm, ⟨4, _⟩ => ⟨S16x4096x64, .f32⟩
  | .hbm, ⟨5, _⟩ => ⟨S_, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S_, .i32⟩
  | .hbm, ⟨10, _⟩ => ⟨S8x1024x64, .f32⟩
  | .hbm, ⟨11, _⟩ => ⟨S_, .i32⟩
  | .hbm, ⟨12, _⟩ => ⟨S16x4096x64, .f32⟩
  | .hbm, ⟨13, _⟩ => ⟨S16x4096x64, .f32⟩
  | .hbm, ⟨14, _⟩ => ⟨S8, .f32⟩
  | .hbm, ⟨15, _⟩ => ⟨S8, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x1024x64, .f32⟩
  | .hbm, ⟨21, _⟩ => ⟨S1024x64, .f32⟩
  | .hbm, ⟨22, _⟩ => ⟨S65536x64, .f32⟩
  | .hbm, ⟨23, _⟩ => ⟨S65536x64, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x64, .f32⟩
  | .hbm, ⟨29, _⟩ => ⟨S65536x64, .f32⟩
  | .hbm, ⟨30, _⟩ => ⟨S64x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S1024x64, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S65536x1024, .f32⟩
  | .hbm, ⟨39, _⟩ => ⟨S65536x1024, .f32⟩
  | .hbm, ⟨40, _⟩ => ⟨S65536x1024, .i32⟩
  | .hbm, ⟨41, _⟩ => ⟨S_, .f32⟩
  | .hbm, ⟨42, _⟩ => ⟨S_, .i32⟩
  | .hbm, ⟨43, _⟩ => ⟨S65536, .f32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S65536, .i32⟩
  | .hbm, ⟨52, _⟩ => ⟨S65536x1, .i32⟩
  | .hbm, ⟨53, _⟩ => ⟨S65536x64, .f32⟩
  | .hbm, ⟨54, _⟩ => ⟨S16x4096x64, .f32⟩
  | .hbm, ⟨55, _⟩ => ⟨S16x4096x64, .f32⟩
  | .hbm, ⟨56, _⟩ => ⟨S16x4096x64, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S16x4096x64, .f32⟩
  | .hbm, ⟨62, _⟩ => ⟨S16x4096x64, .f32⟩
  | .hbm, ⟨63, _⟩ => ⟨S_, .f32⟩
  | .hbm, ⟨64, _⟩ => ⟨S1024, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S_, .i32⟩
  | .hbm, ⟨69, _⟩ => ⟨S65536, .i32⟩
  | .hbm, ⟨70, _⟩ => ⟨S65536, .i32⟩
  | .hbm, ⟨71, _⟩ => ⟨S65536, .i32⟩
  | .hbm, ⟨72, _⟩ => ⟨S65536x1, .i32⟩
  | .hbm, ⟨73, _⟩ => ⟨S_, .f32⟩
  | .hbm, ⟨74, _⟩ => ⟨S65536, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S16x4096x64, .f32⟩
  | .hbm, ⟨89, _⟩ => ⟨S16x4096x64, .f32⟩
  | .hbm, ⟨90, _⟩ => ⟨S1, .f32⟩
  | .hbm, ⟨91, _⟩ => ⟨S8, .f32⟩
  | .hbm, ⟨92, _⟩ => ⟨S1, .f32⟩
  | .hbm, ⟨93, _⟩ => ⟨S8, .f32⟩
  | .hbm, ⟨94, _⟩ => ⟨S_, .i32⟩
  | .hbm, ⟨95, _⟩ => ⟨S_, .i32⟩
  | .hbm, ⟨96, _⟩ => ⟨S16x64x4096, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S16x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_c : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_11 : Ref sig .tc := ⟨.hbm, 16, rfl⟩
abbrev main_while0c_v10 : Ref sig .tc := ⟨.hbm, 17, rfl⟩
abbrev main_while0b_call0_c : Ref sig .tc := ⟨.hbm, 18, rfl⟩
abbrev main_while0b_call0_c_0 : Ref sig .tc := ⟨.hbm, 19, rfl⟩
abbrev main_while0b_call0_v0 : Ref sig .tc := ⟨.hbm, 20, rfl⟩
abbrev main_while0b_v10 : Ref sig .tc := ⟨.hbm, 21, rfl⟩
abbrev main_while0b_v11 : Ref sig .tc := ⟨.hbm, 22, rfl⟩
abbrev main_while0b_v12 : Ref sig .tc := ⟨.hbm, 23, rfl⟩
abbrev main_while0b_cst_11 : Ref sig .tc := ⟨.hbm, 24, rfl⟩
abbrev main_while0b_v13 : Ref sig .tc := ⟨.hbm, 25, rfl⟩
abbrev main_while0b_v14 : Ref sig .tc := ⟨.hbm, 26, rfl⟩
abbrev main_while0b_cst_12 : Ref sig .tc := ⟨.hbm, 27, rfl⟩
abbrev main_while0b_v15 : Ref sig .tc := ⟨.hbm, 28, rfl⟩
abbrev main_while0b_v16 : Ref sig .tc := ⟨.hbm, 29, rfl⟩
abbrev main_while0b_v17 : Ref sig .tc := ⟨.hbm, 30, rfl⟩
abbrev main_while0b_v18 : Ref sig .tc := ⟨.hbm, 31, rfl⟩
abbrev main_while0b_v19 : Ref sig .tc := ⟨.hbm, 32, rfl⟩
abbrev main_while0b_v20 : Ref sig .tc := ⟨.hbm, 33, rfl⟩
abbrev main_while0b_v21 : Ref sig .tc := ⟨.hbm, 34, rfl⟩
abbrev main_while0b_cst_13 : Ref sig .tc := ⟨.hbm, 35, rfl⟩
abbrev main_while0b_v22 : Ref sig .tc := ⟨.hbm, 36, rfl⟩
abbrev main_while0b_v23 : Ref sig .tc := ⟨.hbm, 37, rfl⟩
abbrev main_while0b_v24 : Ref sig .tc := ⟨.hbm, 38, rfl⟩
abbrev main_while0b_v25 : Ref sig .tc := ⟨.hbm, 39, rfl⟩
abbrev main_while0b_call1_v0 : Ref sig .tc := ⟨.hbm, 40, rfl⟩
abbrev main_while0b_call1_cst : Ref sig .tc := ⟨.hbm, 41, rfl⟩
abbrev main_while0b_call1_c : Ref sig .tc := ⟨.hbm, 42, rfl⟩
abbrev main_while0b_call1_v1_0 : Ref sig .tc := ⟨.hbm, 43, rfl⟩
abbrev main_while0b_v26 : Ref sig .tc := ⟨.hbm, 44, rfl⟩
abbrev main_while0b_c_14 : Ref sig .tc := ⟨.hbm, 45, rfl⟩
abbrev main_while0b_v27 : Ref sig .tc := ⟨.hbm, 46, rfl⟩
abbrev main_while0b_v28 : Ref sig .tc := ⟨.hbm, 47, rfl⟩
abbrev main_while0b_c_15 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_cst_16 : Ref sig .tc := ⟨.hbm, 57, rfl⟩
abbrev main_while0b_v37 : Ref sig .tc := ⟨.hbm, 58, rfl⟩
abbrev main_while0b_cst_17 : Ref sig .tc := ⟨.hbm, 59, rfl⟩
abbrev main_while0b_v38 : Ref sig .tc := ⟨.hbm, 60, rfl⟩
abbrev main_while0b_v39 : Ref sig .tc := ⟨.hbm, 61, rfl⟩
abbrev main_while0b_v40 : Ref sig .tc := ⟨.hbm, 62, rfl⟩
abbrev main_while0b_cst_18 : Ref sig .tc := ⟨.hbm, 63, rfl⟩
abbrev main_while0b_v41 : Ref sig .tc := ⟨.hbm, 64, rfl⟩
abbrev main_while0b_c_19 : Ref sig .tc := ⟨.hbm, 65, rfl⟩
abbrev main_while0b_v42 : Ref sig .tc := ⟨.hbm, 66, rfl⟩
abbrev main_while0b_v43 : Ref sig .tc := ⟨.hbm, 67, rfl⟩
abbrev main_while0b_c_20 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_cst_21 : Ref sig .tc := ⟨.hbm, 73, rfl⟩
abbrev main_while0b_v48 : Ref sig .tc := ⟨.hbm, 74, rfl⟩
abbrev main_while0b_v49 : Ref sig .tc := ⟨.hbm, 75, rfl⟩
abbrev main_while0b_cst_22 : Ref sig .tc := ⟨.hbm, 76, rfl⟩
abbrev main_while0b_v50 : Ref sig .tc := ⟨.hbm, 77, rfl⟩
abbrev main_while0b_v51 : Ref sig .tc := ⟨.hbm, 78, rfl⟩
abbrev main_while0b_cst_23 : Ref sig .tc := ⟨.hbm, 79, rfl⟩
abbrev main_while0b_v52 : Ref sig .tc := ⟨.hbm, 80, rfl⟩
abbrev main_while0b_v53 : Ref sig .tc := ⟨.hbm, 81, rfl⟩
abbrev main_while0b_v54 : Ref sig .tc := ⟨.hbm, 82, rfl⟩
abbrev main_while0b_v55 : Ref sig .tc := ⟨.hbm, 83, rfl⟩
abbrev main_while0b_cst_24 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_v59 : Ref sig .tc := ⟨.hbm, 88, rfl⟩
abbrev main_while0b_v60 : Ref sig .tc := ⟨.hbm, 89, rfl⟩
abbrev main_while0b_call2_v0 : Ref sig .tc := ⟨.hbm, 90, rfl⟩
abbrev main_while0b_v61 : Ref sig .tc := ⟨.hbm, 91, rfl⟩
abbrev main_while0b_call3_v0 : Ref sig .tc := ⟨.hbm, 92, rfl⟩
abbrev main_while0b_v62 : Ref sig .tc := ⟨.hbm, 93, rfl⟩
abbrev main_while0b_c_25 : Ref sig .tc := ⟨.hbm, 94, rfl⟩
abbrev main_while0b_v63 : Ref sig .tc := ⟨.hbm, 95, rfl⟩
abbrev main_v5 : Ref sig .tc := ⟨.hbm, 96, rfl⟩
abbrev main_cst_2 : Ref sig .tc := ⟨.hbm, 97, rfl⟩
abbrev main_v6 : Ref sig .tc := ⟨.hbm, 98, rfl⟩
abbrev main_cst_3 : Ref sig .tc := ⟨.hbm, 99, rfl⟩
abbrev main_v7 : Ref sig .tc := ⟨.hbm, 100, rfl⟩
abbrev main_cst_4 : Ref sig .tc := ⟨.hbm, 101, rfl⟩
abbrev main_v8 : Ref sig .tc := ⟨.hbm, 102, rfl⟩
abbrev main_cst_5 : Ref sig .tc := ⟨.hbm, 103, rfl⟩
abbrev main_v9 : Ref sig .tc := ⟨.hbm, 104, rfl⟩

abbrev nD : Nat := 1
abbrev τ : Topo := Topo.v7x

variable {F : FTy → Type} [FloatOps F]

abbrev main_while0_count : Scf.Loop 32 := ⟨0#32, 8#32, 1#32⟩
-- ==== Proof.KerModel.lean ====
module

public import proofs.«01_k».proof.Proof.Gen.KernelIdeal.Frame
public import Idealize.ShloMosaic.Lib.Pipeline.ValueKit

@[expose] public section

/-!
# The body of the kernel, one stage of one chunk at a time

The body cuts its block of 1024 tokens into four chunks of 256 and carries, through the eight quantisers, the
residuals of a chunk, the sum of the words chosen so far and the squared lengths of the residuals. This module states
that recursion with the operations the body prints, and everything the body stores in terms of it.
-/

noncomputable section

namespace Cert.Ker

open Idealize.ShloMosaic Idealize.ShloMosaic.TcCoe Cert.KernelIdeal Cert.KernelIdeal.Gen

variable {F : FTy → Type} [FloatOps F]

/-- What a chunk carries: its residuals, the sum of the words chosen, the squared lengths of the residuals. -/
structure Chunk (F : FTy → Type) where
  res : FVec F S256x64 .f32
  acc : FVec F S256x64 .f32
  len : FVec F S256x1 .f32

/-- The squared lengths of the rows. -/
def lengths (r : FVec F S256x64 .f32) : FVec F S256x1 .f32 :=
  shapeCast S256x1 (multiReduction .add [1] S256 (mulf r r) 0x00000000#32 reduces_S256x64_S256 (.inl rfl) rfl)
    shapeCasts_S256_S256x1

/-- The column numbers. -/
def columns : IVec S256x1024 32 := iota .tc S256x1024 32 [1] iota_S256x1024_d1_w32

/-- The distances of the chunk's residuals to the words, up to rounding. -/
def distance (hi : Vec F S1x1024x64 .bf16) (c2 : Vec F S1x1024 .f32) (k : Chunk F) : FVec F S256x1024 .f32 :=
  addf (subf (broadcastTo S256x1024 k.len broadcasts_S256x1_S256x1024)
      (matmul dot_S256x64_S1024x64_S256x1024_1_1_0_0_n_n none (truncf .bf16 (addf k.res k.res) bitsLt_bf16_f32)
        (shapeCast S1024x64 hi shapeCasts_S1x1024x64_S1024x64) (constant S256x1024 .f32 0x00000000#32)))
    (broadcastTo S256x1024 (shapeCast S1x1024 (shapeCast S1024 c2 shapeCasts_S1x1024_S1024)
      shapeCasts_S1024_S1x1024) broadcasts_S1x1024_S256x1024)

/-- The least column at which a row attains its minimum. -/
def least (d : FVec F S256x1024 .f32) : IVec S256 32 :=
  multiReductionI .minsi [1] S256
    (select (cmpf .oeq d (broadcastTo S256x1024 (shapeCast S256x1
        (multiReduction .minimumf [1] S256 d 0x7F800000#32 reduces_S256x1024_S256 (.inl rfl) rfl)
        shapeCasts_S256_S256x1) broadcasts_S256x1_S256x1024))
      columns (broadcast S256x1024 1024#32)) 2147483647#32 reduces_S256x1024_S256 rfl

/-- One in the column of the chosen word, zero elsewhere. -/
def hot (d : FVec F S256x1024 .f32) : FVec F S256x1024 .bf16 :=
  truncf .bf16 (sitofp .f32 (extui 32 (cmpi .eq columns (broadcastTo S256x1024
    (shapeCast S256x1 (least d) shapeCasts_S256_S256x1) broadcasts_S256x1_S256x1024)) natLt_1_32)) bitsLt_bf16_f32

/-- The rows of a table that the ones select. -/
def pick (o : FVec F S256x1024 .bf16) (w : Vec F S1x1024x64 .bf16) : FVec F S256x64 .f32 :=
  matmul dot_S256x1024_S1024x64_S256x64_1_0_0_1_n_n none o
    (shapeCast S1024x64 w shapeCasts_S1x1024x64_S1024x64) (constant S256x64 .f32 0x00000000#32)

/-- The words chosen, from the three parts of the codebook. -/
def chosen (hi lo lo2 : Vec F S1x1024x64 .bf16) (c2 : Vec F S1x1024 .f32) (k : Chunk F) : FVec F S256x64 .f32 :=
  addf (addf (pick (hot (distance hi c2 k)) hi) (pick (hot (distance hi c2 k)) lo)) (pick (hot (distance hi c2 k)) lo2)

/-- A stage of a chunk. -/
def stage (hi lo lo2 : Vec F S1x1024x64 .bf16) (c2 : Vec F S1x1024 .f32) (k : Chunk F) : Chunk F where
  res := subf k.res (chosen hi lo lo2 c2 k)
  acc := addf k.acc (chosen hi lo lo2 c2 k)
  len := lengths (subf k.res (chosen hi lo lo2 c2 k))

/-- A chunk before the first stage. -/
def begin' (r : FVec F S256x64 .f32) : Chunk F where
  res := r
  acc := broadcast S256x64 (Scalar.ofBits .f32 0x00000000#32)
  len := lengths r

/-- The tables a stage reads: the three parts of each codebook and the squared lengths of its words. -/
structure Tables (F : FTy → Type) where
  hi : Fin 8 → Vec F S1x1024x64 .bf16
  lo : Fin 8 → Vec F S1x1024x64 .bf16
  lo2 : Fin 8 → Vec F S1x1024x64 .bf16
  c2 : Fin 8 → Vec F S1x1024 .f32

/-- A chunk after `n` stages. -/
def after (T : Tables F) (r : FVec F S256x64 .f32) : ℕ → Chunk F
  | 0 => begin' r
  | n + 1 => stage (T.hi (Fin.ofNat 8 n)) (T.lo (Fin.ofNat 8 n)) (T.lo2 (Fin.ofNat 8 n)) (T.c2 (Fin.ofNat 8 n))
      (after T r n)

/-- The four chunks of a block. -/
def chunkOf (x : FVec F S1024x64 .f32) : Fin 4 → FVec F S256x64 .f32
  | 0 => extractStridedSlice S256x64 ![0, 0] x slices_S1024x64_o0_0_S256x64
  | 1 => extractStridedSlice S256x64 ![256, 0] x slices_S1024x64_o256_0_S256x64
  | 2 => extractStridedSlice S256x64 ![512, 0] x slices_S1024x64_o512_0_S256x64
  | 3 => extractStridedSlice S256x64 ![768, 0] x slices_S1024x64_o768_0_S256x64

/-- The sum of a chunk's squared lengths. -/
def total (l : FVec F S256x1 .f32) : F .f32 :=
  extractAt ![0, 0, 0] (shapeCast S1x1x1 (multiReduction .add [1, 2] S1
    (shapeCast S1x256x1 l shapeCasts_S256x1_S1x256x1) 0x00000000#32 reduces_S1x256x1_S1 (.inl rfl) rfl)
    shapeCasts_S1_S1x1x1) inpos_S1x1x1_p0_0_0

/-- The sum of the squared lengths of all chunks after each of the first `n` stages. -/
def lossAfter (T : Tables F) (x : FVec F S1024x64 .f32) : ℕ → F .f32
  | 0 => Scalar.ofBits .f32 0x00000000#32
  | n + 1 => Scalar.addf (Scalar.addf (Scalar.addf (Scalar.addf (lossAfter T x n)
      (total (after T (chunkOf x 0) (n + 1)).len)) (total (after T (chunkOf x 1) (n + 1)).len))
      (total (after T (chunkOf x 2) (n + 1)).len)) (total (after T (chunkOf x 3) (n + 1)).len)

/-- How often a chunk chooses each word at stage `s`, eight times over. -/
def tally (T : Tables F) (s : Fin 8) (r : FVec F S256x64 .f32) : FVec F S8x1024 .f32 :=
  matmul dot_S8x256_S256x1024_S8x1024_1_0_0_1_n_n none (broadcast S8x256 (Scalar.ofBits .bf16 0x3F80#16))
    (hot (distance (T.hi s) (T.c2 s) (after T r s.val))) (constant S8x1024 .f32 0x00000000#32)

/-- The counts of stage `s` with the block's added. -/
def counted (T : Tables F) (x : FVec F S1024x64 .f32) (s : Fin 8) (old : Vec F S1x1024 .f32) : FVec F S1x1024 .f32 :=
  shapeCast S1x1024 (addf (shapeCast S1024 old shapeCasts_S1x1024_S1024)
    (shapeCast S1024 (extractStridedSlice S1x1024 ![0, 0]
      (addf (addf (addf (tally T s (chunkOf x 0)) (tally T s (chunkOf x 1))) (tally T s (chunkOf x 2)))
        (tally T s (chunkOf x 3))) slices_S8x1024_o0_0_S1x1024) shapeCasts_S1x1024_S1024)) shapeCasts_S1024_S1x1024

/-- Table `s` among eight. -/
abbrev slab (s : Fin 8) : Rect S8x1024x64 :=
  Rect.unit (s := S8x1024x64) ![s.val, 0, 0] S1x1024x64.size (by revert s; decide)

/-- Row `s` among eight. -/
abbrev row (s : Fin 8) : Rect S8x1024 := Rect.unit (s := S8x1024) ![s.val, 0] S1x1024.size (by revert s; decide)

/-- The tables, from what the three scratch arrays and the array of squared lengths hold. -/
def tables (s0 s1 s2 : Vec F S8x1024x64 .bf16) (c2 : Vec F S8x1024 .f32) : Tables F where
  hi s := View.ld s0 (slab s)
  lo s := View.ld s1 (slab s)
  lo2 s := View.ld s2 (slab s)
  c2 s := View.ld c2 (row s)

/-- The block of tokens as the body loads it. -/
def block (x : Vec F S1024x64 .f32) : FVec F S1024x64 .f32 :=
  shapeCast S1024x64 (View.ld x (Rect.unit ![0, 0] S1024x64.size inb_S1024x64_S1024x64_0_0)) shapeCasts_S1024x64_S1024x64

/-- What the body stores of the words' sums: a chunk at a time. -/
def sumPieces (T : Tables F) (x : FVec F S1024x64 .f32) : List (View.Piece (Elt F) S1024x64 .f32) :=
  [⟨Rect.unit ![768, 0] S256x64.size inb_S1024x64_S256x64_768_0, (after T (chunkOf x 3) 8).acc⟩,
    ⟨Rect.unit ![512, 0] S256x64.size inb_S1024x64_S256x64_512_0, (after T (chunkOf x 2) 8).acc⟩,
    ⟨Rect.unit ![256, 0] S256x64.size inb_S1024x64_S256x64_256_0, (after T (chunkOf x 1) 8).acc⟩,
    ⟨Rect.unit ![0, 0] S256x64.size inb_S1024x64_S256x64_0_0, (after T (chunkOf x 0) 8).acc⟩]

/-- What the body stores of the counts: a stage at a time, over the counts it finds. -/
def countPieces (T : Tables F) (x : FVec F S1024x64 .f32) (old : Fin 8 → Vec F S1x1024 .f32) :
    List (View.Piece (Elt F) S8x1024 .f32) :=
  [⟨row 7, counted T x 7 (old 7)⟩, ⟨row 6, counted T x 6 (old 6)⟩, ⟨row 5, counted T x 5 (old 5)⟩,
    ⟨row 4, counted T x 4 (old 4)⟩, ⟨row 3, counted T x 3 (old 3)⟩, ⟨row 2, counted T x 2 (old 2)⟩,
    ⟨row 1, counted T x 1 (old 1)⟩, ⟨row 0, counted T x 0 (old 0)⟩]

/-- The parts of the codebooks the first point stores, a codebook at a time. -/
def partPieces (f : Vec F S1x1024x64 .f32 → Vec F S1x1024x64 .bf16) (cb : Vec F S8x1024x64 .f32) :
    List (View.Piece (Elt F) S8x1024x64 .bf16) :=
  [⟨slab 7, f (View.ld cb (slab 7))⟩, ⟨slab 6, f (View.ld cb (slab 6))⟩, ⟨slab 5, f (View.ld cb (slab 5))⟩,
    ⟨slab 4, f (View.ld cb (slab 4))⟩, ⟨slab 3, f (View.ld cb (slab 3))⟩, ⟨slab 2, f (View.ld cb (slab 2))⟩,
    ⟨slab 1, f (View.ld cb (slab 1))⟩, ⟨slab 0, f (View.ld cb (slab 0))⟩]

/-- The loss a point leaves, over the loss it finds. -/
def lossNext (T : Tables F) (x : FVec F S1024x64 .f32) (old : Vec F S1x1 .f32) : Vec F S1x1 .f32 :=
  k0_pay1 (lossAfter T x 8) old

/-- What the first point stores of the counts: zeros, then a stage at a time over what it finds. -/
def fill {sig : RefSig} (v : View sig .tc .vmem S8x1024 .f32) (T : Tables F) (x : FVec F S1024x64 .f32) :
    ℕ → List (View.Piece (Elt F) S8x1024 .f32)
  | 0 => [⟨Rect.unit ![0, 0] S8x1024.size inb_S8x1024_S8x1024_0_0, k0_pay3⟩]
  | n + 1 => ⟨row (Fin.ofNat 8 n), counted T x (Fin.ofNat 8 n) (v.readCov (fill v T x n) (row (Fin.ofNat 8 n)).toLoadRect)⟩
      :: fill v T x n

end Cert.Ker

end
-- ==== Proof.KerRun.lean ====
module

public import proofs.«01_k».proof.Proof.KerModel

@[expose] public section

set_option maxRecDepth 10000

/-!
# What a grid point leaves, in terms of the stages

Each window's contents after a point, from the block of tokens, the tables and what the point before left.
-/

noncomputable section

namespace Cert.Ker

open Idealize.ShloMosaic Idealize.ShloMosaic.TcCoe Cert.KernelIdeal Cert.KernelIdeal.Gen

variable {F : FTy → Type} [FloatOps F]
variable (m : (ℓ : Loc nD τ sig) → Buf (Elt F) ℓ) (c : Dev nD)

/-- What a point leaves of the words' sums. -/
abbrev sums (t : Fin cfg0.N) : Vec F S1024x64 .f32 := (outsAt0 m c t.val t.isLt).1
/-- What a point leaves of the loss. -/
abbrev loss (t : Fin cfg0.N) : Vec F S1x1 .f32 := (outsAt0 m c t.val t.isLt).2.1
/-- What a point leaves of the perplexity. -/
abbrev perp (t : Fin cfg0.N) : Vec F S1x1 .f32 := (outsAt0 m c t.val t.isLt).2.2.1
/-- What a point leaves of the counts. -/
abbrev counts (t : Fin cfg0.N) : Vec F S8x1024 .f32 := (outsAt0 m c t.val t.isLt).2.2.2.1
/-- The tables a point works with. -/
abbrev tabs (t : Fin cfg0.N) : Tables F :=
  tables (outsAt0 m c t.val t.isLt).2.2.2.2.1 (outsAt0 m c t.val t.isLt).2.2.2.2.2.1
    (outsAt0 m c t.val t.isLt).2.2.2.2.2.2 (iblk m c 2 t)
/-- The tokens a point works on. -/
abbrev toks (t : Fin cfg0.N) : FVec F S1024x64 .f32 := block (iblk m c 0 t)
/-- The point before. -/
abbrev pre (t : Fin cfg0.N) : Fin cfg0.N := ⟨t.val - 1, Nat.lt_of_le_of_lt (Nat.sub_le _ _) t.isLt⟩

/-- The tables as loaded from whole memrefs. -/
def tablesAt (a3 : Memref sig .tc .vmem S8x1024 .f32) (f3 : a3.view.ty.Contents (Elt F))
    (a8 a9 a10 : Memref sig .tc .vmem S8x1024x64 .bf16) (f8 : a8.view.ty.Contents (Elt F))
    (f9 : a9.view.ty.Contents (Elt F)) (f10 : a10.view.ty.Contents (Elt F)) : Tables F where
  hi s := View.readAt (Elt F) a8.view (slab s).toLoadRect f8
  lo s := View.readAt (Elt F) a9.view (slab s).toLoadRect f9
  lo2 s := View.readAt (Elt F) a10.view (slab s).toLoadRect f10
  c2 s := View.readAt (Elt F) a3.view (row s).toLoadRect f3

theorem tablesAt_eq (a3 : Memref sig .tc .vmem S8x1024 .f32) (f3 : a3.view.ty.Contents (Elt F))
    (a8 a9 a10 : Memref sig .tc .vmem S8x1024x64 .bf16) (f8 : a8.view.ty.Contents (Elt F))
    (f9 : a9.view.ty.Contents (Elt F)) (f10 : a10.view.ty.Contents (Elt F)) :
    tablesAt a3 f3 a8 a9 a10 f8 f9 f10
      = tables (a8.view.read (Elt F) f8) (a9.view.read (Elt F) f9) (a10.view.read (Elt F) f10) (a3.view.read (Elt F) f3) := rfl

/-- The tokens as loaded from a whole memref. -/
def blockAt (a1 : Memref sig .tc .vmem S1024x64 .f32) (f1 : a1.view.ty.Contents (Elt F)) : FVec F S1024x64 .f32 :=
  shapeCast S1024x64 (View.readAt (Elt F) a1.view
    (Rect.unit ![0, 0] S1024x64.size inb_S1024x64_S1024x64_0_0).toLoadRect f1) shapeCasts_S1024x64_S1024x64

theorem blockAt_eq (a1 : Memref sig .tc .vmem S1024x64 .f32) (f1 : a1.view.ty.Contents (Elt F)) :
    blockAt a1 f1 = block (a1.view.read (Elt F) f1) := rfl

/-- What a load of a whole memref reads of what it holds. -/
theorem ld_at {S : Shape} {e : EltTy} (a : Memref sig .tc .vmem S e) (ha : a.IsWhole) (X : S.Idx → Elt F e) (r : Rect S) :
    View.ld X r = View.readAt (Elt F) a.view r.toLoadRect (ha.unread X) := by
  rw [View.readAt_eq_ld, Memref.IsWhole.read_unread]

/-- A load of the one number of a whole memref. -/
theorem one_at (a : Memref sig .tc .vmem S1x1 .f32) (ha : a.IsWhole) (X : Vec F S1x1 .f32) :
    X = View.readAt (Elt F) a.view (Rect.unit ![0, 0] S1x1.size inb_S1x1_S1x1_0_0).toLoadRect (ha.unread X) :=
  (View.ld_unit_zero (S := S1x1) (by decide) inb_S1x1_S1x1_0_0 X).symm.trans (ld_at a ha X _)

attribute [local irreducible] addf subf mulf truncf multiReduction multiReductionI shapeCast broadcastTo
  extractStridedSlice select cmpf cmpi extui sitofp broadcast constant iota extractAt View.readAt Scalar.addf
  Memref.IsWhole.unread

/-- The tokens of a point, read where the body loads them. -/
theorem toks_at (t : Fin cfg0.N) : toks m c t = blockAt (ms0_0 t) ((hs0_0 t).unread (iblk m c 0 t)) := by
  rw [blockAt_eq, Memref.IsWhole.read_unread]

/-- The tables of a point between the first and the last, read where the body loads them. -/
theorem tabs_B (t : Fin cfg0.N) (h0 : ¬t.val % 64 = 0) (h1 : ¬t.val % 64 = 63) :
    tabs m c t = tablesAt (ms0_2 t) ((hs0_2 t).unread (iblk m c 2 t)) scM0_0 scM0_1 scM0_2
      ((Memref.isWhole_whole _).unread (outsAt0 m c (pre t).val (pre t).isLt).2.2.2.2.1)
      ((Memref.isWhole_whole _).unread (outsAt0 m c (pre t).val (pre t).isLt).2.2.2.2.2.1)
      ((Memref.isWhole_whole _).unread (outsAt0 m c (pre t).val (pre t).isLt).2.2.2.2.2.2) := by
  rw [tablesAt_eq, Memref.IsWhole.read_unread, Memref.IsWhole.read_unread, Memref.IsWhole.read_unread,
    Memref.IsWhole.read_unread]
  unfold tabs
  rw [outsAt0_B m c t h0 h1]
  rfl

/-- The sums a point between the first and the last leaves. -/
theorem sums_B (t : Fin cfg0.N) (h0 : ¬t.val % 64 = 0) (h1 : ¬t.val % 64 = 63) :
    sums m c t = View.canon (sumPieces (tabs m c t) (toks m c t)) := by
  rw [tabs_B m c t h0 h1, toks_at]
  unfold sums
  rw [outsAt0_B m c t h0 h1]
  dsimp only [out0_B_3]
  rw [View.read_writes_junk_eq_canon]
  exact congrArg View.canon rfl

/-- The loss a point between the first and the last leaves. -/
theorem loss_B (t : Fin cfg0.N) (h0 : ¬t.val % 64 = 0) (h1 : ¬t.val % 64 = 63) :
    loss m c t = lossNext (tabs m c t) (toks m c t) (loss m c (pre t)) := by
  rw [one_at (ms0_4 t) (hs0_4 t) (loss m c (pre t)), tabs_B m c t h0 h1, toks_at]
  unfold loss
  conv_lhs => rw [outsAt0_B m c t h0 h1]
  dsimp only [out0_B_4]
  rw [View.read_writes_junk_eq_canon]
  refine (View.canon_unit_zero (S := S1x1) (by decide) _ _).trans ?_
  rfl

/-- The counts a point between the first and the last leaves. -/
theorem counts_B (t : Fin cfg0.N) (h0 : ¬t.val % 64 = 0) (h1 : ¬t.val % 64 = 63) :
    counts m c t = View.canon (countPieces (tabs m c t) (toks m c t)
      fun s => View.ld (counts m c (pre t)) (row s)) := by
  rw [tabs_B m c t h0 h1, toks_at]
  simp only [ld_at (ms0_6 t) (hs0_6 t) (counts m c (pre t))]
  unfold counts
  conv_lhs => rw [outsAt0_B m c t h0 h1]
  dsimp only [out0_B_6]
  rw [View.read_writes_junk_eq_canon]
  exact congrArg View.canon rfl

/-- The tables of the last point, read where the body loads them. -/
theorem tabs_C (t : Fin cfg0.N) (h0 : ¬t.val % 64 = 0) (h1 : t.val % 64 = 63) :
    tabs m c t = tablesAt (ms0_2 t) ((hs0_2 t).unread (iblk m c 2 t)) scM0_0 scM0_1 scM0_2
      ((Memref.isWhole_whole _).unread (outsAt0 m c (pre t).val (pre t).isLt).2.2.2.2.1)
      ((Memref.isWhole_whole _).unread (outsAt0 m c (pre t).val (pre t).isLt).2.2.2.2.2.1)
      ((Memref.isWhole_whole _).unread (outsAt0 m c (pre t).val (pre t).isLt).2.2.2.2.2.2) := by
  rw [tablesAt_eq, Memref.IsWhole.read_unread, Memref.IsWhole.read_unread, Memref.IsWhole.read_unread,
    Memref.IsWhole.read_unread]
  unfold tabs
  rw [outsAt0_C m c t h0 h1]
  rfl

/-- The sums the last point leaves. -/
theorem sums_C (t : Fin cfg0.N) (h0 : ¬t.val % 64 = 0) (h1 : t.val % 64 = 63) :
    sums m c t = View.canon (sumPieces (tabs m c t) (toks m c t)) := by
  rw [tabs_C m c t h0 h1, toks_at]
  unfold sums
  rw [outsAt0_C m c t h0 h1]
  dsimp only [out0_C_3]
  rw [View.read_writes_junk_eq_canon]
  exact congrArg View.canon rfl

/-- The loss the last point leaves. -/
theorem loss_C (t : Fin cfg0.N) (h0 : ¬t.val % 64 = 0) (h1 : t.val % 64 = 63) :
    loss m c t = lossNext (tabs m c t) (toks m c t) (loss m c (pre t)) := by
  rw [one_at (ms0_4 t) (hs0_4 t) (loss m c (pre t)), tabs_C m c t h0 h1, toks_at]
  unfold loss
  conv_lhs => rw [outsAt0_C m c t h0 h1]
  dsimp only [out0_C_4]
  rw [View.read_writes_junk_eq_canon]
  refine (View.canon_unit_zero (S := S1x1) (by decide) _ _).trans ?_
  rfl

/-- The counts the last point leaves. -/
theorem counts_C (t : Fin cfg0.N) (h0 : ¬t.val % 64 = 0) (h1 : t.val % 64 = 63) :
    counts m c t = View.canon (countPieces (tabs m c t) (toks m c t)
      fun s => View.ld (counts m c (pre t)) (row s)) := by
  rw [tabs_C m c t h0 h1, toks_at]
  simp only [ld_at (ms0_6 t) (hs0_6 t) (counts m c (pre t))]
  unfold counts
  conv_lhs => rw [outsAt0_C m c t h0 h1]
  dsimp only [out0_C_6]
  rw [View.read_writes_junk_eq_canon]
  exact congrArg View.canon rfl

/-- What the first point leaves of the first part of the codebooks. -/
theorem hi_A (t : Fin cfg0.N) (h0 : t.val % 64 = 0) (h1 : ¬t.val % 64 = 63) :
    (outsAt0 m c t.val t.isLt).2.2.2.2.1 = View.canon (partPieces k0_pay10 (iblk m c 1 t)) := by
  unfold partPieces
  simp only [ld_at (ms0_1 t) (hs0_1 t) (iblk m c 1 t)]
  rw [outsAt0_A m c t h0 h1]
  dsimp only [sout0_A_0]
  rw [View.read_writes_junk_eq_canon]
  exact congrArg View.canon rfl

/-- What the first point leaves of the second part. -/
theorem lo_A (t : Fin cfg0.N) (h0 : t.val % 64 = 0) (h1 : ¬t.val % 64 = 63) :
    (outsAt0 m c t.val t.isLt).2.2.2.2.2.1 = View.canon (partPieces k0_pay11 (iblk m c 1 t)) := by
  unfold partPieces
  simp only [ld_at (ms0_1 t) (hs0_1 t) (iblk m c 1 t)]
  rw [outsAt0_A m c t h0 h1]
  dsimp only [sout0_A_1]
  rw [View.read_writes_junk_eq_canon]
  exact congrArg View.canon rfl

/-- What the first point leaves of the third part. -/
theorem lo2_A (t : Fin cfg0.N) (h0 : t.val % 64 = 0) (h1 : ¬t.val % 64 = 63) :
    (outsAt0 m c t.val t.isLt).2.2.2.2.2.2 = View.canon (partPieces k0_pay12 (iblk m c 1 t)) := by
  unfold partPieces
  simp only [ld_at (ms0_1 t) (hs0_1 t) (iblk m c 1 t)]
  rw [outsAt0_A m c t h0 h1]
  dsimp only [sout0_A_2]
  rw [View.read_writes_junk_eq_canon]
  exact congrArg View.canon rfl

/-- The tables as the first point loads them, after storing them. -/
def tablesCov (a3 : Memref sig .tc .vmem S8x1024 .f32) (f3 : a3.view.ty.Contents (Elt F))
    (a8 a9 a10 : Memref sig .tc .vmem S8x1024x64 .bf16) (L8 L9 L10 : List (View.Piece (Elt F) S8x1024x64 .bf16)) :
    Tables F where
  hi s := a8.view.readCov L8 (slab s).toLoadRect
  lo s := a9.view.readCov L9 (slab s).toLoadRect
  lo2 s := a10.view.readCov L10 (slab s).toLoadRect
  c2 s := View.readAt (Elt F) a3.view (row s).toLoadRect f3

/-- The tables of the first point, read where the body loads them. -/
theorem tabs_A (t : Fin cfg0.N) (h0 : t.val % 64 = 0) (h1 : ¬t.val % 64 = 63) :
    tabs m c t = tablesCov (ms0_2 t) ((hs0_2 t).unread (iblk m c 2 t)) scM0_0 scM0_1 scM0_2
      (partPieces k0_pay10 (iblk m c 1 t)) (partPieces k0_pay11 (iblk m c 1 t))
      (partPieces k0_pay12 (iblk m c 1 t)) := by
  unfold tablesCov tabs tables
  simp only [View.readCov_eq_canon', ← ld_at, ← hi_A m c t h0 h1, ← lo_A m c t h0 h1, ← lo2_A m c t h0 h1]

theorem sums_A (t : Fin cfg0.N) (h0 : t.val % 64 = 0) (h1 : ¬t.val % 64 = 63) :
    sums m c t = View.canon (sumPieces (tabs m c t) (toks m c t)) := by
  rw [tabs_A m c t h0 h1, toks_at]
  unfold partPieces
  simp only [ld_at (ms0_1 t) (hs0_1 t) (iblk m c 1 t)]
  unfold sums
  rw [outsAt0_A m c t h0 h1]
  dsimp only [out0_A_3]
  rw [View.read_writes_junk_eq_canon]
  exact congrArg View.canon rfl

theorem loss_A (t : Fin cfg0.N) (h0 : t.val % 64 = 0) (h1 : ¬t.val % 64 = 63) :
    loss m c t = lossNext (tabs m c t) (toks m c t) k0_pay4 := by
  rw [tabs_A m c t h0 h1, toks_at]
  unfold partPieces
  simp only [ld_at (ms0_1 t) (hs0_1 t) (iblk m c 1 t)]
  have hz : (ms0_4 t).view.readCov [(⟨Rect.unit (s := S1x1) ![0, 0] S1x1.size inb_S1x1_S1x1_0_0, k0_pay4⟩ :
      View.Piece (Elt F) S1x1 .f32)] (Rect.unit ![0, 0] S1x1.size inb_S1x1_S1x1_0_0).toLoadRect = k0_pay4 :=
    View.readCov_unit_zero (S := S1x1) _ (by decide) _ _
  refine Eq.trans ?_ (congrArg (lossNext _ _) hz)
  unfold loss
  rw [outsAt0_A m c t h0 h1]
  dsimp only [out0_A_4]
  rw [View.read_writes_junk_eq_canon]
  refine (View.canon_cons_unit_zero (S := S1x1) (by decide) _ _ _).trans ?_
  rfl

theorem counts_A (t : Fin cfg0.N) (h0 : t.val % 64 = 0) (h1 : ¬t.val % 64 = 63) :
    counts m c t = View.canon (fill (ms0_6 t).view (tabs m c t) (toks m c t) 8) := by
  rw [tabs_A m c t h0 h1, toks_at]
  unfold partPieces
  simp only [ld_at (ms0_1 t) (hs0_1 t) (iblk m c 1 t)]
  unfold counts
  rw [outsAt0_A m c t h0 h1]
  dsimp only [out0_A_6]
  rw [View.read_writes_junk_eq_canon]
  exact congrArg View.canon rfl

theorem perp_C (t : Fin cfg0.N) (h0 : ¬t.val % 64 = 0) (h1 : t.val % 64 = 63) :
    perp m c t = k0_pay2 (counts m c t) := by
  have hc : counts m c t = (ms0_6 t).view.readCov (countPieces (tabs m c t) (toks m c t)
      fun s => View.ld (counts m c (pre t)) (row s))
      (Rect.unit (s := S8x1024) ![0, 0] S8x1024.size inb_S8x1024_S8x1024_0_0).toLoadRect := by
    rw [View.readCov_eq_canon', ← counts_C m c t h0 h1]
    exact (View.ld_unit_zero (S := S8x1024) (by decide) inb_S8x1024_S8x1024_0_0 _).symm
  rw [hc, tabs_C m c t h0 h1, toks_at]
  simp only [ld_at (ms0_6 t) (hs0_6 t) (counts m c (pre t))]
  unfold perp
  conv_lhs => rw [outsAt0_C m c t h0 h1]
  dsimp only [out0_C_5]
  rw [View.read_writes_junk_eq_canon]
  refine (View.canon_unit_zero (S := S1x1) (by decide) _ _).trans ?_
  rfl

end Cert.Ker

end
-- ==== Proof.Spec.lean ====
module

public import Idealize.ShloMosaic.Lib.ValueIdx
public import Idealize.ShloMosaic.PureOps.Ideal

@[expose] public section

/-!
# The residual quantiser over the real numbers

One token at a time: eight codebooks, each giving the word nearest to what the earlier ones left, the first of them where
several are equally near. Nothing here speaks of either program.
-/

noncomputable section

namespace Cert.Spec

open Idealize.ShloMosaic

/-- A sum of real numbers, summed as extended ones. -/
theorem coe_sum {ι : Type} [Fintype ι] (f : ι → ℝ) : ((∑ i, f i : ℝ) : EReal) = ∑ i, (f i : EReal) := by
  classical
  exact map_sum (⟨⟨fun x : ℝ => (x : EReal), EReal.coe_zero⟩, EReal.coe_add⟩ : ℝ →+ EReal) f Finset.univ

/-- A codebook: 1024 words of 64 numbers. -/
abbrev Words := Fin 1024 → Fin 64 → ℝ

/-- The squared distance of a vector to word `j`. -/
def dist (w : Words) (r : Fin 64 → ℝ) (j : Fin 1024) : ℝ :=
  ∑ i, r i * r i - ∑ i, (r i + r i) * w j i + ∑ i, w j i * w j i

theorem exists_first (d : Fin 1024 → ℝ) : ∃ j, (∀ k, d j ≤ d k) ∧ ∀ k, k < j → d j < d k := by
  obtain ⟨j₀, -, h₀⟩ := Finset.exists_min_image Finset.univ d ⟨0, Finset.mem_univ _⟩
  let S := Finset.univ.filter fun j => ∀ k, d j ≤ d k
  have hS : S.Nonempty := ⟨j₀, Finset.mem_filter.mpr ⟨Finset.mem_univ _, fun k => h₀ k (Finset.mem_univ _)⟩⟩
  have hm := (Finset.mem_filter.mp (S.min'_mem hS)).2
  refine ⟨S.min' hS, hm, fun k hk => ?_⟩
  by_contra hc
  exact absurd (S.min'_le k (Finset.mem_filter.mpr ⟨Finset.mem_univ _, fun i => (not_lt.mp hc).trans (hm i)⟩))
    (not_le.mpr hk)

/-- The first column at which the least value stands. -/
def first (d : Fin 1024 → ℝ) : Fin 1024 := (exists_first d).choose

theorem first_le (d : Fin 1024 → ℝ) (k : Fin 1024) : d (first d) ≤ d k := (exists_first d).choose_spec.1 k

theorem first_lt (d : Fin 1024 → ℝ) (k : Fin 1024) (h : k < first d) : d (first d) < d k :=
  (exists_first d).choose_spec.2 k h

/-- What the first `n` codebooks leave of a vector. -/
def left (C : Fin 8 → Words) (v : Fin 64 → ℝ) : ℕ → Fin 64 → ℝ
  | 0 => v
  | n + 1 => fun i => left C v n i - C (Fin.ofNat 8 n) (first (dist (C (Fin.ofNat 8 n)) (left C v n))) i

/-- The word the codebook after the first `n` gives. -/
def pick (C : Fin 8 → Words) (v : Fin 64 → ℝ) (n : ℕ) : Fin 1024 :=
  first (dist (C (Fin.ofNat 8 n)) (left C v n))

/-- The sum of the first `n` words given. -/
def got (C : Fin 8 → Words) (v : Fin 64 → ℝ) : ℕ → Fin 64 → ℝ
  | 0 => fun _ => 0
  | n + 1 => fun i => got C v n i + C (Fin.ofNat 8 n) (pick C v n) i

theorem left_succ (C : Fin 8 → Words) (v : Fin 64 → ℝ) (n : ℕ) (i : Fin 64) :
    left C v (n + 1) i = left C v n i - C (Fin.ofNat 8 n) (pick C v n) i := rfl

/-- The squared length of what the first `n` codebooks leave. -/
def err (C : Fin 8 → Words) (v : Fin 64 → ℝ) (n : ℕ) : ℝ := ∑ i, left C v n i * left C v n i

/-- How many of a family of vectors get word `j` of codebook `s`. -/
def count {ι : Type} [Fintype ι] (C : Fin 8 → Words) (x : ι → Fin 64 → ℝ) (s : Fin 8) (j : Fin 1024) : ℝ :=
  ∑ t, if pick C (x t) s.val = j then 1 else 0

/-- The sum over the vectors and the codebooks of the squared lengths left. -/
def lost {ι : Type} [Fintype ι] (C : Fin 8 → Words) (x : ι → Fin 64 → ℝ) : ℝ :=
  ∑ t, ∑ n ∈ Finset.range 8, err C (x t) (n + 1)

/-- The mean over the codebooks of the exponential of the entropy of how often their words are given, among 65536. -/
def spread (n : Fin 8 → Fin 1024 → ℝ) : EReal :=
  Ideal.div (∑ s, Ideal.exp (0 - ∑ j, Ideal.div (n s j : EReal) (Ideal.ofBits .f32 1199570944#32) *
      Ideal.log (Ideal.div (n s j : EReal) (Ideal.ofBits .f32 1199570944#32) + Ideal.ofBits .f32 786163455#32)))
    (Ideal.ofBits .f32 1090519040#32)

/-- Token `n` of the input, its batches one after another. -/
def token (z : Fin 16 → Fin 64 → Fin 4096 → ℝ) (n : ℕ) (i : Fin 64) : ℝ :=
  z (Fin.ofNat 16 (n / 4096)) i (Fin.ofNat 4096 n)

theorem token_eq (z : Fin 16 → Fin 64 → Fin 4096 → ℝ) (n : Fin 65536) (i : Fin 64) :
    token z n.val i = z ⟨n.val / 4096, by omega⟩ i ⟨n.val % 4096, by omega⟩ := by
  unfold token
  rw [show Fin.ofNat 16 (n.val / 4096) = ⟨n.val / 4096, by omega⟩ from Fin.ext (Nat.mod_eq_of_lt (by omega))]
  rfl

/-- The first result: for every token the sum of the eight words it gets. -/
def outSum (z : Fin 16 → Fin 64 → Fin 4096 → ℝ) (C : Fin 8 → Words) : FVec Ideal ⟨3, ![16, 64, 4096]⟩ .f32 :=
  fun y => (got C (token z (4096 * (y 0).val + (y 2).val)) 8 (y 1) : EReal)

/-- The second result: a quarter more than the mean, over the numbers of the input, of the squares left. -/
def outLoss (z : Fin 16 → Fin 64 → Fin 4096 → ℝ) (C : Fin 8 → Words) : FVec Ideal ⟨0, ![]⟩ .f32 :=
  fun _ => ((5 / 4 * lost C (fun n : Fin 65536 => token z n.val) / 4194304 : ℝ) : EReal)

/-- The third result: the mean perplexity of the codebooks. -/
def outPerp (z : Fin 16 → Fin 64 → Fin 4096 → ℝ) (C : Fin 8 → Words) : FVec Ideal ⟨0, ![]⟩ .f32 :=
  fun _ => spread (count C (fun n : Fin 65536 => token z n.val))

/-- The number of numbers of the input. -/
theorem million : Ideal.ofBits .f32 1249902592#32 = ((4194304 : ℝ) : EReal) := by
  simp [Ideal.ofBits, Ideal.ieee, -EReal.coe_mul]; norm_num

/-- A sum over the tokens, a block of `m` at a time. -/
theorem sum_blocks (m : ℕ) (f : ℕ → ℝ) (T : ℕ) :
    ∑ u ∈ Finset.range T, ∑ a : Fin m, f (m * u + a.val) = ∑ n ∈ Finset.range (m * T), f n := by
  induction T with
  | zero => rfl
  | succ T ih =>
    rw [Finset.sum_range_succ, ih, Nat.mul_succ, Finset.sum_range_add]
    rw [Finset.sum_range fun a => f (m * T + a)]

theorem sum_tokens (f : ℕ → ℝ) :
    ∑ u ∈ Finset.range 64, ∑ a : Fin 1024, f (1024 * u + a.val) = ∑ n : Fin 65536, f n.val := by
  rw [sum_blocks, ← Finset.sum_range]

theorem sum_batches (f : ℕ → ℝ) :
    ∑ u : Fin 16, ∑ a : Fin 4096, f (u.val * 4096 + a.val) = ∑ n : Fin 65536, f n.val := by
  rw [← Finset.sum_range fun u => ∑ a : Fin 4096, f (u * 4096 + a.val)]
  simp only [Nat.mul_comm _ 4096]
  rw [sum_blocks, ← Finset.sum_range]

end Cert.Spec

end
-- ==== Proof.KerStage.lean ====
module

public import proofs.«01_k».proof.Proof.KerModel
public import proofs.«01_k».proof.Proof.Spec
public import Idealize.ShloMosaic.Lib.Pointwise
public import Idealize.ShloMosaic.Lib.SortNet.Extract

@[expose] public section

set_option maxRecDepth 16384

/-!
# A stage of the kernel's body, over the real numbers
-/

noncomputable section

namespace Cert.Ker

open Idealize.ShloMosaic Idealize.ShloMosaic.TcCoe Cert.KernelIdeal Cert.KernelIdeal.Gen

/-- The minimum of real numbers, taken from the top. -/
theorem fold_min_coe (d : Fin 1024 → ℝ) :
    Finset.fold min (Ideal.ofBits .f32 2139095040#32) (fun x => (d x : EReal)) Finset.univ
      = (d (Spec.first d) : EReal) := by
  refine le_antisymm ((Finset.fold_min_le _).mpr (Or.inr ⟨Spec.first d, Finset.mem_univ _, le_rfl⟩))
    ((Finset.le_fold_min _).mpr ⟨?_, fun x _ => EReal.coe_le_coe_iff.mpr (Spec.first_le d x)⟩)
  rw [show Ideal.ofBits .f32 2139095040#32 = (⊤ : EReal) from by simp [Ideal.ofBits, Ideal.ieee]]
  exact le_top

/-- A column's number, as a word, is the number. -/
theorem toInt_column (x : Fin 1024) : (BitVec.ofNat 32 x.val).toInt = (x.val : Int) := by
  have := x.isLt
  rw [BitVec.toInt_eq_toNat_of_lt (by simp only [BitVec.toNat_ofNat]; omega)]
  simp only [BitVec.toNat_ofNat]; omega

/-- The least of the column numbers that pass a test, 1024 standing for the others. -/
theorem fold_minsi (p : Fin 1024 → Prop) [DecidablePred p] (j : Fin 1024) (hj : p j) (hl : ∀ k, k < j → ¬p k) :
    Finset.fold IntOp.minsi 2147483647#32 (fun x : Fin 1024 => if p x then BitVec.ofNat 32 x.val else 1024#32)
      Finset.univ = BitVec.ofNat 32 j.val := by
  apply BitVec.eq_of_toInt_eq
  rw [toInt_column, ← Finset.fold_hom (op := IntOp.minsi) (op' := min) (m := BitVec.toInt)
    (fun a b => SortNet.toInt_minsi a b)]
  have hjl := j.isLt
  refine le_antisymm ((Finset.fold_min_le _).mpr (Or.inr ⟨j, Finset.mem_univ _, ?_⟩))
    ((Finset.le_fold_min _).mpr ⟨?_, fun x _ => ?_⟩)
  · rw [if_pos hj, toInt_column]
  · have : (2147483647#32 : BitVec 32).toInt = 2147483647 := by decide
    omega
  · by_cases hx : p x
    · rw [if_pos hx, toInt_column]
      have : ¬x < j := fun h => hl x h hx
      omega
    · rw [if_neg hx]
      have : (1024#32 : BitVec 32).toInt = 1024 := by decide
      omega

/-- The first column of least distance. -/
theorem least_eq (d : FVec Ideal S256x1024 .f32) (e : Fin 256 → Fin 1024 → ℝ)
    (hd : ∀ a b, d (ix2 a b) = (e a b : EReal)) (a : Fin 256) :
    least d (ix1 a) = BitVec.ofNat 32 (Spec.first (e a)).val := by
  pointwise [least, columns]
  simp only [hd, fold_min_coe]
  refine fold_minsi _ _ rfl fun k hk hc => ?_
  exact absurd (EReal.coe_eq_coe_iff.mp hc) (Spec.first_lt (e a) k hk).ne'

/-- One at the first column of least distance and nought at the others. -/
theorem hot_eq (d : FVec Ideal S256x1024 .f32) (e : Fin 256 → Fin 1024 → ℝ)
    (hd : ∀ a b, d (ix2 a b) = (e a b : EReal)) (a : Fin 256) (b : Fin 1024) :
    hot d (ix2 a b) = (((if Spec.first (e a) = b then 1 else 0 : ℝ)) : EReal) := by
  have hl := least_eq d e hd a
  pointwise [hot, columns]
  rw [hl]
  by_cases h : Spec.first (e a) = b
  · subst h
    rw [if_pos rfl, show IntOp.cmpi .eq (BitVec.ofNat 32 (Spec.first (e a)).val) (BitVec.ofNat 32 (Spec.first (e a)).val)
      = 1#1 from by simp [IntOp.cmpi]]
    show (((1#32 : BitVec 32).toInt : ℝ) : EReal) = _
    simp
  · have hne : BitVec.ofNat 32 b.val ≠ BitVec.ofNat 32 (Spec.first (e a)).val := fun hc => by
      have := congrArg BitVec.toInt hc
      rw [toInt_column, toInt_column] at this
      omega
    rw [if_neg h, show IntOp.cmpi .eq (BitVec.ofNat 32 b.val) (BitVec.ofNat 32 (Spec.first (e a)).val) = 0#1 from by
      show BitVec.ofBool (_ == _) = _
      rw [beq_eq_false_iff_ne.mpr hne]; rfl]
    show (((0#32 : BitVec 32).toInt : ℝ) : EReal) = _
    simp

/-- The word a one-hot row picks. -/
theorem pick_eq (o : FVec Ideal S256x1024 .f32) (w : Vec Ideal S1x1024x64 .bf16) (f : Fin 256 → Fin 1024)
    (W : Fin 1024 → Fin 64 → ℝ)
    (ho : ∀ a b, o (ix2 a b) = (((if f a = b then 1 else 0 : ℝ)) : EReal))
    (hw : ∀ j i, w (ix3 0 j i) = (W j i : EReal)) (a : Fin 256) (b : Fin 64) :
    pick o w (ix2 a b) = (W (f a) b : EReal) := by
  pointwise [pick]
  simp only [ho, hw, ← EReal.coe_mul, ← Spec.coe_sum]
  simp

theorem distance_eq (hi : Vec Ideal S1x1024x64 .bf16) (c2 : Vec Ideal S1x1024 .f32) (k : Chunk Ideal)
    (W : Spec.Words) (r : Fin 256 → Fin 64 → ℝ)
    (hw : ∀ j i, hi (ix3 0 j i) = (W j i : EReal))
    (hc : ∀ j, c2 (ix2 0 j) = ((∑ i, W j i * W j i : ℝ) : EReal))
    (hr : ∀ a b, k.res (ix2 a b) = (r a b : EReal))
    (hl : ∀ a, k.len (ix2 a 0) = ((∑ i, r a i * r a i : ℝ) : EReal)) (a : Fin 256) (b : Fin 1024) :
    distance hi c2 k (ix2 a b) = (Spec.dist W (r a) b : EReal) := by
  pointwise [distance]
  simp only [hw, hc, hr, hl, ← EReal.coe_mul, ← EReal.coe_add, ← EReal.coe_sub, ← Spec.coe_sum]
  rfl

theorem lengths_eq (x : FVec Ideal S256x64 .f32) (r : Fin 256 → Fin 64 → ℝ)
    (hr : ∀ a b, x (ix2 a b) = (r a b : EReal)) (a : Fin 256) :
    lengths x (ix2 a 0) = ((∑ i, r a i * r a i : ℝ) : EReal) := by
  pointwise [lengths]
  simp only [hr, ← EReal.coe_mul, ← Spec.coe_sum]

/-- The tables hold the codebooks: the leading part all of them, the other parts nought. -/
structure Tables.Holds (T : Tables Ideal) (C : Fin 8 → Spec.Words) : Prop where
  hi : ∀ s j i, T.hi s (ix3 0 j i) = (C s j i : EReal)
  lo : ∀ s j i, T.lo s (ix3 0 j i) = ((0 : ℝ) : EReal)
  lo2 : ∀ s j i, T.lo2 s (ix3 0 j i) = ((0 : ℝ) : EReal)
  c2 : ∀ s j, T.c2 s (ix2 0 j) = ((∑ i, C s j i * C s j i : ℝ) : EReal)

/-- The rows of a chunk after `n` stages. -/
structure Chunk.At (k : Chunk Ideal) (C : Fin 8 → Spec.Words) (v : Fin 256 → Fin 64 → ℝ) (n : ℕ) : Prop where
  res : ∀ a b, k.res (ix2 a b) = (Spec.left C (v a) n b : EReal)
  acc : ∀ a b, k.acc (ix2 a b) = (Spec.got C (v a) n b : EReal)
  len : ∀ a, k.len (ix2 a 0) = (Spec.err C (v a) n : EReal)

theorem after_at {T : Tables Ideal} {C : Fin 8 → Spec.Words} (hT : T.Holds C) (x : FVec Ideal S256x64 .f32)
    (v : Fin 256 → Fin 64 → ℝ) (hx : ∀ a b, x (ix2 a b) = (v a b : EReal)) (n : ℕ) : (after T x n).At C v n := by
  induction n with
  | zero =>
    refine ⟨hx, fun a b => ?_, lengths_eq x v hx⟩
    show broadcast S256x64 (Scalar.ofBits .f32 0x00000000#32) (ix2 a b) = _
    pointwise
    simp [Spec.got]
  | succ n ih =>
    have hd := distance_eq (T.hi (Fin.ofNat 8 n)) (T.c2 (Fin.ofNat 8 n)) (after T x n) (C (Fin.ofNat 8 n))
      (fun a => Spec.left C (v a) n) (hT.hi _) (hT.c2 _) ih.res ih.len
    have hh := hot_eq _ _ hd
    have hc : ∀ a b, chosen (T.hi (Fin.ofNat 8 n)) (T.lo (Fin.ofNat 8 n)) (T.lo2 (Fin.ofNat 8 n)) (T.c2 (Fin.ofNat 8 n))
        (after T x n) (ix2 a b) = (C (Fin.ofNat 8 n) (Spec.pick C (v a) n) b : EReal) := fun a b => by
      show pick _ (T.hi (Fin.ofNat 8 n)) (ix2 a b) + pick _ (T.lo (Fin.ofNat 8 n)) (ix2 a b)
        + pick _ (T.lo2 (Fin.ofNat 8 n)) (ix2 a b) = _
      rw [pick_eq _ _ _ _ hh (hT.hi _), pick_eq _ _ _ (fun _ _ => 0) hh (hT.lo _),
        pick_eq _ _ _ (fun _ _ => 0) hh (hT.lo2 _), EReal.coe_zero, add_zero, add_zero]
      rfl
    have hr : ∀ a b, (after T x (n + 1)).res (ix2 a b) = (Spec.left C (v a) (n + 1) b : EReal) := fun a b => by
      show (after T x n).res (ix2 a b) - chosen _ _ _ _ _ (ix2 a b) = _
      rw [hc, ih.res, ← EReal.coe_sub]
      rfl
    refine ⟨hr, fun a b => ?_, lengths_eq _ _ hr⟩
    show (after T x n).acc (ix2 a b) + chosen _ _ _ _ _ (ix2 a b) = _
    rw [hc, ih.acc, ← EReal.coe_add]
    rfl

/-- The columns a stage chooses. -/
theorem hot_after {T : Tables Ideal} {C : Fin 8 → Spec.Words} (hT : T.Holds C) (x : FVec Ideal S256x64 .f32)
    (v : Fin 256 → Fin 64 → ℝ) (hx : ∀ a b, x (ix2 a b) = (v a b : EReal)) (s : Fin 8) (a : Fin 256) (b : Fin 1024) :
    hot (distance (T.hi s) (T.c2 s) (after T x s.val)) (ix2 a b)
      = (((if Spec.pick C (v a) s.val = b then 1 else 0 : ℝ)) : EReal) := by
  have hs : Fin.ofNat 8 s.val = s := Fin.ext (Nat.mod_eq_of_lt s.isLt)
  have ih := after_at hT x v hx s.val
  have := hot_eq _ _ (distance_eq (T.hi s) (T.c2 s) (after T x s.val) (C s)
    (fun a => Spec.left C (v a) s.val) (hT.hi _) (hT.c2 _) ih.res ih.len) a b
  rw [this, Spec.pick, hs]

/-- Row `a` of chunk `q`, among a block's 1024. -/
def at4 (q : Fin 4) (a : Fin 256) : Fin 1024 := ⟨256 * q.val + a.val, by omega⟩

theorem chunkOf_eq (x : FVec Ideal S1024x64 .f32) (q : Fin 4) (a : Fin 256) (b : Fin 64) :
    chunkOf x q (ix2 a b) = x (ix2 (at4 q a) b) := by
  have h0 : chunkOf x 0 (ix2 a b) = x (ix2 (at4 0 a) b) := by
    pointwise [chunkOf]
    exact congrArg (fun t => x (ix2 t b)) (Fin.ext (by simp [at4]))
  have h1 : chunkOf x 1 (ix2 a b) = x (ix2 (at4 1 a) b) := by pointwise [chunkOf]; rfl
  have h2 : chunkOf x 2 (ix2 a b) = x (ix2 (at4 2 a) b) := by pointwise [chunkOf]; rfl
  have h3 : chunkOf x 3 (ix2 a b) = x (ix2 (at4 3 a) b) := by pointwise [chunkOf]; rfl
  match q with
  | 0 => exact h0
  | 1 => exact h1
  | 2 => exact h2
  | 3 => exact h3

/-- A sum over the four chunks' rows is one over the block's. -/
theorem sum_at4 {M : Type} [AddCommMonoid M] (f : Fin 1024 → M) :
    ∑ a, f (at4 0 a) + ∑ a, f (at4 1 a) + ∑ a, f (at4 2 a) + ∑ a, f (at4 3 a) = ∑ t, f t := by
  rw [← (finProdFinEquiv (m := 4) (n := 256)).sum_comp, Fintype.sum_prod_type, Fin.sum_univ_four]
  have h : ∀ (q : Fin 4) (a : Fin 256), finProdFinEquiv (q, a) = at4 q a := fun q a =>
    Fin.ext (by simp [finProdFinEquiv, at4]; omega)
  simp only [h]

theorem total_eq (l : FVec Ideal S256x1 .f32) (e : Fin 256 → ℝ) (hl : ∀ a, l (ix2 a 0) = (e a : EReal)) :
    total l = ((∑ a, e a : ℝ) : EReal) := by
  unfold total
  pointwise
  simp [hl, Spec.coe_sum]

theorem counted_eq {T : Tables Ideal} {C : Fin 8 → Spec.Words} (hT : T.Holds C) (x : FVec Ideal S1024x64 .f32)
    (v : Fin 1024 → Fin 64 → ℝ) (hx : ∀ a b, x (ix2 a b) = (v a b : EReal)) (s : Fin 8) (old : Vec Ideal S1x1024 .f32)
    (b : Fin 1024) :
    counted T x s old (ix2 0 b) = old (ix2 0 b) + ((∑ t, (if Spec.pick C (v t) s.val = b then 1 else 0 : ℝ) : ℝ) : EReal) := by
  have h : ∀ q a, hot (distance (T.hi s) (T.c2 s) (after T (chunkOf x q) s.val)) (ix2 a b)
      = (((if Spec.pick C (v (at4 q a)) s.val = b then 1 else 0 : ℝ)) : EReal) := fun q a =>
    hot_after hT (chunkOf x q) (fun a => v (at4 q a)) (fun a b => by rw [chunkOf_eq, hx]) s a b
  rw [← sum_at4 (fun t => (if Spec.pick C (v t) s.val = b then 1 else 0 : ℝ))]
  pointwise [counted, tally]
  simp only [h, ← EReal.coe_add, ← Spec.coe_sum]

theorem lossAfter_eq {T : Tables Ideal} {C : Fin 8 → Spec.Words} (hT : T.Holds C) (x : FVec Ideal S1024x64 .f32)
    (v : Fin 1024 → Fin 64 → ℝ) (hx : ∀ a b, x (ix2 a b) = (v a b : EReal)) (n : ℕ) :
    lossAfter T x n = ((∑ t, ∑ k ∈ Finset.range n, Spec.err C (v t) (k + 1) : ℝ) : EReal) := by
  induction n with
  | zero =>
    show Ideal.ofBits .f32 0x00000000#32 = _
    simp
  | succ n ih =>
    have h : ∀ q, total (after T (chunkOf x q) (n + 1)).len
        = ((∑ a, Spec.err C (v (at4 q a)) (n + 1) : ℝ) : EReal) := fun q =>
      total_eq _ _ (after_at hT (chunkOf x q) (fun a => v (at4 q a)) (fun a b => by rw [chunkOf_eq, hx]) (n + 1)).len
    show lossAfter T x n + total _ + total _ + total _ + total _ = _
    rw [ih, h, h, h, h]
    simp only [← EReal.coe_add, Finset.sum_range_succ, Finset.sum_add_distrib]
    rw [← sum_at4 (fun t => Spec.err C (v t) (n + 1))]
    congr 1
    ring

end Cert.Ker

end
-- ==== Proof.KerPoints.lean ====
module

public import proofs.«01_k».proof.Proof.KerRun
public import proofs.«01_k».proof.Proof.KerStage

@[expose] public section

set_option maxRecDepth 16384

/-!
# What the points leave, over the real numbers
-/

noncomputable section

namespace Cert.Ker

open Idealize.ShloMosaic Idealize.ShloMosaic.TcCoe Cert.KernelIdeal Cert.KernelIdeal.Gen

/-! ## Reading what a list of stores leaves -/

theorem row_emb (s : Fin 8) (b : Fin 1024) : (row s).emb (ix2 0 b) = ix2 s b := by
  blk_ext

theorem slab_emb (s : Fin 8) (j : Fin 1024) (i : Fin 64) : (slab s).emb (ix3 0 j i) = ix3 s j i := by
  blk_ext

theorem ld_row (x : Vec Ideal S8x1024 .f32) (s : Fin 8) (b : Fin 1024) :
    View.ld x (row s) (ix2 0 b) = x (ix2 s b) := congrArg x (row_emb s b)

theorem ld_slab {e : EltTy} (x : Vec Ideal S8x1024x64 e) (s : Fin 8) (j : Fin 1024) (i : Fin 64) :
    View.ld x (slab s) (ix3 0 j i) = x (ix3 s j i) := congrArg x (slab_emb s j i)

/-- A chunk's rows of a block. -/
abbrev part (q : Fin 4) : Rect S1024x64 := Rect.unit (s := S1024x64) ![256 * q.val, 0] S256x64.size (by revert q; decide)

theorem part_emb (q : Fin 4) (a : Fin 256) (b : Fin 64) : (part q).emb (ix2 a b) = ix2 (at4 q a) b := by
  blk_ext [at4]

theorem canon_counts (T : Tables Ideal) (x : FVec Ideal S1024x64 .f32) (old : Fin 8 → Vec Ideal S1x1024 .f32)
    (s : Fin 8) (b : Fin 1024) :
    View.canon (countPieces T x old) (ix2 s b) = counted T x s (old s) (ix2 0 b) := by
  have hL : countPieces T x old = (List.finRange 8).reverse.map
      (fun s => (⟨row s, counted T x s (old s)⟩ : View.Piece (Elt Ideal) S8x1024 .f32)) := rfl
  rw [hL]
  refine View.canon_apply_of_pieces (Val := Elt Ideal) (e := .f32) (fun y : S8x1024.Idx => (counted T x (y 0) (old (y 0)) (ix2 0 (y 1)) : Elt Ideal .f32)) _ (fun p hp z => ?_) _ ?_
  · obtain ⟨s, -, rfl⟩ := List.mem_map.mp hp
    obtain ⟨b, rfl⟩ : ∃ b : Fin 1024, z = ix2 0 b := ⟨z 1, by blk_ext⟩
    show _ = counted T x ((row s).emb (ix2 0 b) 0) _ _
    rw [row_emb]
    rfl
  · refine ⟨_, List.mem_map.mpr ⟨s, by simp, rfl⟩, ?_⟩
    rw [← row_emb]
    exact LoadRect.idx_mem _ _

theorem canon_parts (f : Vec Ideal S1x1024x64 .f32 → Vec Ideal S1x1024x64 .bf16) (cb : Vec Ideal S8x1024x64 .f32)
    (s : Fin 8) (j : Fin 1024) (i : Fin 64) :
    View.canon (partPieces f cb) (ix3 s j i) = f (View.ld cb (slab s)) (ix3 0 j i) := by
  have hL : partPieces f cb = (List.finRange 8).reverse.map
      (fun s => (⟨slab s, f (View.ld cb (slab s))⟩ : View.Piece (Elt Ideal) S8x1024x64 .bf16)) := rfl
  rw [hL]
  refine View.canon_apply_of_pieces (Val := Elt Ideal) (e := .bf16) (fun y : S8x1024x64.Idx => (f (View.ld cb (slab (y 0))) (ix3 0 (y 1) (y 2)) :
    Elt Ideal .bf16)) _ (fun p hp z => ?_) _ ?_
  · obtain ⟨s, -, rfl⟩ := List.mem_map.mp hp
    obtain ⟨j, i, rfl⟩ : ∃ (j : Fin 1024) (i : Fin 64), z = ix3 0 j i := ⟨z 1, z 2, by blk_ext⟩
    beta_reduce
    rw [slab_emb]
    rfl
  · refine ⟨_, List.mem_map.mpr ⟨s, by simp, rfl⟩, ?_⟩
    rw [← slab_emb]
    exact LoadRect.idx_mem _ _

theorem canon_sums (T : Tables Ideal) (x : FVec Ideal S1024x64 .f32) (g : Fin 1024 → Fin 64 → EReal)
    (hg : ∀ q a b, (after T (chunkOf x q) 8).acc (ix2 a b) = g (at4 q a) b) (n : Fin 1024) (b : Fin 64) :
    View.canon (sumPieces T x) (ix2 n b) = g n b := by
  have hL : sumPieces T x = (List.finRange 4).reverse.map
      (fun q => (⟨part q, (after T (chunkOf x q) 8).acc⟩ : View.Piece (Elt Ideal) S1024x64 .f32)) := rfl
  rw [hL]
  refine View.canon_apply_of_pieces (Val := Elt Ideal) (e := .f32) (fun y : S1024x64.Idx => (g (y 0) (y 1) : Elt Ideal .f32)) _ (fun p hp z => ?_) _ ?_
  · obtain ⟨q, -, rfl⟩ := List.mem_map.mp hp
    obtain ⟨a, b, rfl⟩ : ∃ (a : Fin 256) (b : Fin 64), z = ix2 a b := ⟨z 0, z 1, by blk_ext⟩
    beta_reduce
    rw [part_emb]
    exact hg q a b
  · refine ⟨_, List.mem_map.mpr ⟨⟨n.val / 256, by omega⟩, by simp, rfl⟩, ?_⟩
    have hn : n = at4 ⟨n.val / 256, by omega⟩ ⟨n.val % 256, by omega⟩ := Fin.ext (by simp only [at4]; omega)
    rw [show (ix2 n b : S1024x64.Idx) = (part ⟨n.val / 256, by omega⟩).emb (ix2 ⟨n.val % 256, by omega⟩ b) from by
      rw [part_emb, ← hn]]
    exact LoadRect.idx_mem _ _

theorem row_disjoint {s s' : Fin 8} (h : s ≠ s') (b : Fin 1024) : (ix2 s b : S8x1024.Idx) ∉ (row s').set := by
  intro hm
  obtain ⟨z, hz⟩ := (row s').exists_idx_of_mem hm
  obtain ⟨b', rfl⟩ : ∃ b' : Fin 1024, z = ix2 0 b' := ⟨z 1, by blk_ext⟩
  rw [show (row s').idx (ix2 0 b') = (row s').emb (ix2 0 b') from rfl, row_emb] at hz
  exact h (congrFun hz 0).symm

/-- The counts the first point stores: each row the stage's, over the noughts it found. -/
theorem canon_fill {sig : RefSig} (v : View sig .tc .vmem S8x1024 .f32) (T : Tables Ideal) (x : FVec Ideal S1024x64 .f32)
    (g : Fin 8 → Fin 1024 → EReal)
    (hg : ∀ s old b, counted T x s old (ix2 0 b) = old (ix2 0 b) + g s b) (n : ℕ) (hn : n ≤ 8) (s : Fin 8) (b : Fin 1024) :
    View.canon (fill v T x n) (ix2 s b) = if s.val < n then g s b else 0 := by
  induction n with
  | zero =>
    show View.canon [(⟨Rect.unit ![0, 0] S8x1024.size inb_S8x1024_S8x1024_0_0, k0_pay3 (F := Ideal)⟩ : View.Piece (Elt Ideal) S8x1024 .f32)] _ = _
    rw [View.canon_unit_zero (by decide)]
    pointwise [k0_pay3]
    simp
  | succ n ih =>
    have ih := ih (by omega)
    have hv : (Fin.ofNat 8 n).val = n := Nat.mod_eq_of_lt (by omega)
    rw [fill]
    by_cases h : s = Fin.ofNat 8 n
    · subst h
      rw [← row_emb, View.canon_cons_emb, hg, View.readCov_eq_canon']
      have : View.canon (fill v T x n) ((row (Fin.ofNat 8 n)).toLoadRect.idx (ix2 0 b)) = 0 := by
        rw [show (row (Fin.ofNat 8 n)).toLoadRect.idx (ix2 0 b) = (row (Fin.ofNat 8 n)).emb (ix2 0 b) from rfl, row_emb,
          ih, if_neg (by omega)]
      beta_reduce
      rw [this, hv, zero_add, if_pos (Nat.lt_succ_self n)]
    · refine (View.canon_cons_of_not_mem _ _ (y := (ix2 s b : S8x1024.Idx)) ?_).trans (ih.trans ?_)
      · exact row_disjoint h b
      have hne : s.val ≠ n := fun hc => h (Fin.ext (hc.trans hv.symm))
      by_cases hs : s.val < n
      · rw [if_pos hs, if_pos (by omega)]
      · rw [if_neg hs, if_neg (by omega)]

/-! ## From point to point -/

variable (m : (ℓ : Loc nD τ sig) → Buf (Elt Ideal) ℓ) (c : Dev nD)

/-- The blocks the points find, in real numbers. -/
structure Inputs (C : Fin 8 → Spec.Words) (tok : ℕ → Fin 64 → ℝ) : Prop where
  toks : ∀ t a b, iblk m c 0 t (ix2 a b) = (tok (1024 * t.val + a.val) b : EReal)
  book : ∀ t s j i, iblk m c 1 t (ix3 s j i) = (C s j i : EReal)
  sq : ∀ t s j, iblk m c 2 t (ix2 s j) = ((∑ i, C s j i * C s j i : ℝ) : EReal)

/-- What a point past the first keeps of the scratch arrays. -/
theorem scratch_keep (t : Fin cfg0.N) (h0 : ¬t.val % 64 = 0) :
    (outsAt0 m c t.val t.isLt).2.2.2.2 = (outsAt0 m c (pre t).val (pre t).isLt).2.2.2.2 := by
  by_cases h1 : t.val % 64 = 63
  · rw [outsAt0_C m c t h0 h1]; rfl
  · rw [outsAt0_B m c t h0 h1]; rfl

variable {m c} {C : Fin 8 → Spec.Words} {tok : ℕ → Fin 64 → ℝ}

theorem scratch_first (hI : Inputs m c C tok) (t : Fin cfg0.N) (h0 : t.val % 64 = 0) (s : Fin 8) (j : Fin 1024) (i : Fin 64) :
    (outsAt0 m c t.val t.isLt).2.2.2.2.1 (ix3 s j i) = (C s j i : EReal)
      ∧ (outsAt0 m c t.val t.isLt).2.2.2.2.2.1 (ix3 s j i) = ((0 : ℝ) : EReal)
      ∧ (outsAt0 m c t.val t.isLt).2.2.2.2.2.2 (ix3 s j i) = ((0 : ℝ) : EReal) := by
  have h1 : ¬t.val % 64 = 63 := by omega
  rw [hi_A m c t h0 h1, lo_A m c t h0 h1, lo2_A m c t h0 h1, canon_parts, canon_parts, canon_parts]
  have hl := hI.book t s j i
  refine ⟨?_, ?_, ?_⟩
  · pointwise [k0_pay10, k0_pay9, k0_pay8, k0_pay7, k0_pay6]
    exact hl
  · pointwise [k0_pay11, k0_pay9, k0_pay8, k0_pay7, k0_pay6]
    rw [hl, ← EReal.coe_sub, sub_self]
  · pointwise [k0_pay12, k0_pay9, k0_pay8, k0_pay7, k0_pay6]
    rw [hl, ← EReal.coe_sub, ← EReal.coe_sub, sub_self]

/-- Every point works with the codebooks. -/
theorem holds (hI : Inputs m c C tok) (n : ℕ) (hn : n < cfg0.N) : (tabs m c ⟨n, hn⟩).Holds C := by
  have key : ∀ s j i, (outsAt0 m c n hn).2.2.2.2.1 (ix3 s j i) = (C s j i : EReal)
      ∧ (outsAt0 m c n hn).2.2.2.2.2.1 (ix3 s j i) = ((0 : ℝ) : EReal)
      ∧ (outsAt0 m c n hn).2.2.2.2.2.2 (ix3 s j i) = ((0 : ℝ) : EReal) := by
    induction n with
    | zero => exact scratch_first hI ⟨0, hn⟩ rfl
    | succ n ih =>
      have hN : n + 1 < 64 := lt_of_lt_of_eq hn N_0
      have hk := scratch_keep m c ⟨n + 1, hn⟩ (by show ¬(n + 1) % 64 = 0; omega)
      dsimp only at hk
      rw [hk]
      exact ih _
  exact ⟨fun s j i => (ld_slab _ s j i).trans (key s j i).1, fun s j i => (ld_slab _ s j i).trans (key s j i).2.1,
    fun s j i => (ld_slab _ s j i).trans (key s j i).2.2, fun s j => (ld_row _ s j).trans (hI.sq ⟨n, hn⟩ s j)⟩

theorem toks_eq (hI : Inputs m c C tok) (t : Fin cfg0.N) (a : Fin 1024) (b : Fin 64) :
    toks m c t (ix2 a b) = (tok (1024 * t.val + a.val) b : EReal) := by
  rw [← hI.toks t a b]
  pointwise [block]

/-- The sums of words a point leaves. -/
theorem sums_eq (hI : Inputs m c C tok) (t : Fin cfg0.N) (a : Fin 1024) (b : Fin 64) :
    sums m c t (ix2 a b) = (Spec.got C (tok (1024 * t.val + a.val)) 8 b : EReal) := by
  have hs : sums m c t = View.canon (sumPieces (tabs m c t) (toks m c t)) := by
    by_cases h0 : t.val % 64 = 0
    · exact sums_A m c t h0 (by omega)
    · by_cases h1 : t.val % 64 = 63
      · exact sums_C m c t h0 h1
      · exact sums_B m c t h0 h1
  rw [hs]
  refine canon_sums _ _ (fun n b => (Spec.got C (tok (1024 * t.val + n.val)) 8 b : EReal)) (fun q a b => ?_) a b
  exact (after_at (holds hI t.val t.isLt) (chunkOf (toks m c t) q) (fun a => tok (1024 * t.val + (at4 q a).val))
    (fun a b => by rw [chunkOf_eq, toks_eq hI]) 8).acc a b

/-- The errors of block `u`. -/
def blockLost (C : Fin 8 → Spec.Words) (tok : ℕ → Fin 64 → ℝ) (u : ℕ) : ℝ :=
  ∑ a : Fin 1024, ∑ k ∈ Finset.range 8, Spec.err C (tok (1024 * u + a.val)) (k + 1)

/-- How often block `u` chooses a word. -/
def blockCount (C : Fin 8 → Spec.Words) (tok : ℕ → Fin 64 → ℝ) (u : ℕ) (s : Fin 8) (j : Fin 1024) : ℝ :=
  ∑ a : Fin 1024, if Spec.pick C (tok (1024 * u + a.val)) s.val = j then 1 else 0

theorem lossNext_eq (hI : Inputs m c C tok) (t : Fin cfg0.N) (old : Vec Ideal S1x1 .f32) :
    lossNext (tabs m c t) (toks m c t) old (ix2 0 0)
      = old (ix2 0 0) + ((5 / 4 * blockLost C tok t.val : ℝ) : EReal) := by
  have h := lossAfter_eq (holds hI t.val t.isLt) (toks m c t) (fun a => tok (1024 * t.val + a.val)) (toks_eq hI t) 8
  unfold lossNext
  rw [h]
  pointwise [k0_pay1]
  rw [EReal.coe_mul, show Ideal.ofBits .f32 1067450368#32 = ((5 / 4 : ℝ) : EReal) from by
    simp [Ideal.ofBits, Ideal.ieee, -EReal.coe_mul]; norm_num]
  rfl

/-- The loss after a point: a quarter more than the errors of the blocks so far. -/
theorem loss_eq (hI : Inputs m c C tok) (n : ℕ) (hn : n < cfg0.N) :
    loss m c ⟨n, hn⟩ (ix2 0 0) = ((5 / 4 * ∑ u ∈ Finset.range (n + 1), blockLost C tok u : ℝ) : EReal) := by
  induction n with
  | zero =>
    rw [loss_A m c ⟨0, hn⟩ rfl (by simp), lossNext_eq hI]
    have : k0_pay4 (F := Ideal) (ix2 0 0) = 0 := by pointwise [k0_pay4]
    rw [this, zero_add, Finset.sum_range_one]
  | succ n ih =>
    have hN : n + 1 < 64 := lt_of_lt_of_eq hn N_0
    have h0 : ¬(n + 1) % 64 = 0 := by omega
    have hs : loss m c ⟨n + 1, hn⟩ = lossNext (tabs m c ⟨n + 1, hn⟩) (toks m c ⟨n + 1, hn⟩) (loss m c (pre ⟨n + 1, hn⟩)) := by
      by_cases h1 : (n + 1) % 64 = 63
      · exact loss_C m c ⟨n + 1, hn⟩ h0 h1
      · exact loss_B m c ⟨n + 1, hn⟩ h0 h1
    rw [hs, show pre ⟨n + 1, hn⟩ = ⟨n, by omega⟩ from rfl, lossNext_eq hI, Finset.sum_range_succ, mul_add, EReal.coe_add, ← ih (by omega)]

theorem counted_block (hI : Inputs m c C tok) (t : Fin cfg0.N) (s : Fin 8) (old : Vec Ideal S1x1024 .f32) (b : Fin 1024) :
    counted (tabs m c t) (toks m c t) s old (ix2 0 b) = old (ix2 0 b) + (blockCount C tok t.val s b : EReal) :=
  counted_eq (holds hI t.val t.isLt) (toks m c t) (fun a => tok (1024 * t.val + a.val)) (toks_eq hI t) s old b

/-- The counts after a point. -/
theorem counts_eq (hI : Inputs m c C tok) (n : ℕ) (hn : n < cfg0.N) (s : Fin 8) (j : Fin 1024) :
    counts m c ⟨n, hn⟩ (ix2 s j) = ((∑ u ∈ Finset.range (n + 1), blockCount C tok u s j : ℝ) : EReal) := by
  induction n with
  | zero =>
    rw [counts_A m c ⟨0, hn⟩ rfl (by simp), canon_fill _ _ _ (fun s b => (blockCount C tok 0 s b : EReal))
      (fun s old b => counted_block hI ⟨0, hn⟩ s old b) 8 le_rfl, if_pos s.isLt, Finset.sum_range_one]
  | succ n ih =>
    have hN : n + 1 < 64 := lt_of_lt_of_eq hn N_0
    have h0 : ¬(n + 1) % 64 = 0 := by omega
    have hs : counts m c ⟨n + 1, hn⟩ = View.canon (countPieces (tabs m c ⟨n + 1, hn⟩) (toks m c ⟨n + 1, hn⟩)
        fun s => View.ld (counts m c (pre ⟨n + 1, hn⟩)) (row s)) := by
      by_cases h1 : (n + 1) % 64 = 63
      · exact counts_C m c ⟨n + 1, hn⟩ h0 h1
      · exact counts_B m c ⟨n + 1, hn⟩ h0 h1
    rw [hs, show pre ⟨n + 1, hn⟩ = ⟨n, by omega⟩ from rfl, canon_counts, counted_block hI, ld_row, Finset.sum_range_succ, EReal.coe_add, ← ih (by omega)]

end Cert.Ker

end
-- ==== Proof.KerEnd.lean ====
module

public import proofs.«01_k».proof.Proof.KerPoints
public import Idealize.ShloMosaic.Lib.Claim
public import Idealize.ShloMosaic.Lib.StableHlo.ReadAt

@[expose] public section

set_option maxRecDepth 16384

/-!
# What the kernel's program ends with, over the real numbers
-/

noncomputable section

namespace Cert.Ker

open Idealize.ShloMosaic Idealize.ShloMosaic.TcCoe Cert.KernelIdeal Cert.KernelIdeal.Gen Idealize.SL.Sem

variable (m : (ℓ : Loc nD τ sig) → Buf (Elt Ideal) ℓ) (ρ : Dev nD → PrngReg) (c : Dev nD)

theorem idx : ∀ t : Fin cfg0.N, win0_0.index t = ![t.val, 0] ∧ win0_1.index t = ![0, 0, 0] ∧ win0_2.index t = ![0, 0]
    ∧ win0_3.index t = ![t.val, 0] ∧ win0_4.index t = ![0, 0] ∧ win0_5.index t = ![0, 0] :=
  (by decide +kernel : ∀ t : Fin grid0.N, _)

/-! ## The arrays the grid finds -/

theorem V_tok (n : Fin 65536) (i : Fin 64) : V m c main_v1 (ix2 n i)
    = m ((c : Thread nD τ).loc main_arg0) (ix3 ⟨n.val / 4096, by omega⟩ i ⟨n.val % 4096, by omega⟩) := by
  unfold V V0
  unfold_abbrev_sides
  after_reads_at

theorem V_sq (s : Fin 8) (j : Fin 1024) : V m c main_v3 (ix2 s j)
    = ∑ i, (show EReal from m ((c : Thread nD τ).loc main_arg1) (ix3 s j i))
        * (show EReal from m ((c : Thread nD τ).loc main_arg1) (ix3 s j i)) := by
  unfold V V0
  unfold_abbrev_sides
  after_reads_at

/-- The blocks, when the arguments are real numbers. -/
theorem inputs (z : Fin 16 → Fin 64 → Fin 4096 → ℝ) (C : Fin 8 → Spec.Words)
    (hz : ∀ b i t, m ((c : Thread nD τ).loc main_arg0) (ix3 b i t) = (z b i t : EReal))
    (hC : ∀ s j i, m ((c : Thread nD τ).loc main_arg1) (ix3 s j i) = (C s j i : EReal)) :
    Inputs m c C (Spec.token z) where
  toks t a b := by
    have hN : t.val < 64 := lt_of_lt_of_eq t.isLt N_0
    have h : iblk m c 0 t (ix2 a b) = V m c main_v1 (ix2 ⟨1024 * t.val + a.val, by omega⟩ b) := by
      blk_ext [iblk, idx t]
    rw [h, V_tok, hz]
    exact congrArg _ (Spec.token_eq z ⟨1024 * t.val + a.val, by omega⟩ b).symm
  book t s j i := by
    have h : iblk m c 1 t (ix3 s j i) = m ((c : Thread nD τ).loc main_arg1) (ix3 s j i) := by
      blk_ext [iblk, V, idx t]
    rw [h, hC]
  sq t s j := by
    have h : iblk m c 2 t (ix2 s j) = V m c main_v3 (ix2 s j) := by
      blk_ext [iblk, idx t]
    rw [h, V_sq]
    simp only [hC]
    rw [Spec.coe_sum]
    rfl

/-! ## The arrays the grid leaves -/

variable {m c} {C : Fin 8 → Spec.Words} {tok : ℕ → Fin 64 → ℝ}

/-- The perplexity of real counts. -/
theorem perp_eq (x : FVec Ideal S8x1024 .f32) (n : Fin 8 → Fin 1024 → ℝ) (hx : ∀ s j, x (ix2 s j) = (n s j : EReal)) :
    k0_pay2 (F := Ideal) x (ix2 0 0) = Spec.spread n := by
  pointwise [k0_pay2]
  simp only [hx]
  rfl

theorem final_sums (hI : Inputs m c C tok) (n : Fin 65536) (b : Fin 64) :
    (dats m 0 c).arrAt 3 (cfgs 0).N (ix2 n b) = (Spec.got C (tok n.val) 8 b : EReal) := by
  have : (dats m 0 c).arrAt 3 (cfgs 0).N = fun y : S65536x64.Idx => (Spec.got C (tok (y 0).val) 8 (y 1) : EReal) := by
    refine (dats m 0 c).arrAt_eq_of_covers 3 _ (by decide +kernel) fun t _ y => ?_
    blk_simp
    rw [after0_3]
    obtain ⟨a, b, rfl⟩ : ∃ (a : Fin 1024) (b : Fin 64), y = ix2 a b := ⟨y 0, y 1, by blk_ext⟩
    refine (sums_eq hI t a b).trans ?_
    have h0 : win0_3.index t 0 * 1024 + a.val = 1024 * t.val + a.val := by rw [(idx t).2.2.2.1]; show t.val * 1024 + _ = _; omega
    have h1 : (win0_3.blk t).view.emb (ix2 a b) 1 = b := Fin.ext (by blk_simp [idx t])
    show _ = (Spec.got C (tok (win0_3.index t 0 * 1024 + a.val)) 8 ((win0_3.blk t).view.emb (ix2 a b) 1) : EReal)
    rw [h0, h1]
  rw [this]
  rfl

theorem arr_loss (t : Fin cfg0.N) (h : (cfg0.win 4).WholeAt t) : (dats m 0 c).arrAt 4 (cfgs 0).N = loss m c t := by
  refine (dats m 0 c).arrAt_eq_of_after_last 4 t h _ fun j => ?_
  blk_simp
  rw [after0_4]

theorem arr_perp (t : Fin cfg0.N) (h : (cfg0.win 5).WholeAt t) : (dats m 0 c).arrAt 5 (cfgs 0).N = perp m c t := by
  refine (dats m 0 c).arrAt_eq_of_after_last 5 t h _ fun j => ?_
  blk_simp
  rw [after0_5]

/-- The last point, and that it alone writes the loss and the perplexity back. -/
theorem last : ∃ t : Fin cfg0.N, t.val = 63 ∧ (cfg0.win 4).WholeAt t ∧ (cfg0.win 5).WholeAt t :=
  (by decide +kernel : ∃ t : Fin grid0.N, _)

theorem loss_at (hI : Inputs m c C tok) (t : Fin cfg0.N) :
    loss m c t (ix2 0 0) = ((5 / 4 * ∑ u ∈ Finset.range (t.val + 1), blockLost C tok u : ℝ) : EReal) :=
  loss_eq hI t.val t.isLt

theorem perp_at (hI : Inputs m c C tok) (t : Fin cfg0.N) (ht : t.val = 63) :
    perp m c t (ix2 0 0) = Spec.spread fun s j => ∑ u ∈ Finset.range (t.val + 1), blockCount C tok u s j := by
  rw [perp_C m c t (by omega) (by omega)]
  exact perp_eq _ _ (counts_eq hI t.val t.isLt)

theorem final_loss (hI : Inputs m c C tok) :
    (dats m 0 c).arrAt 4 (cfgs 0).N (ix2 0 0) = ((5 / 4 * ∑ u ∈ Finset.range 64, blockLost C tok u : ℝ) : EReal) := by
  obtain ⟨t, ht, h, -⟩ := last
  have := loss_at hI t
  rw [ht] at this
  exact (congrFun (arr_loss t h) _).trans this

theorem final_perp (hI : Inputs m c C tok) :
    (dats m 0 c).arrAt 5 (cfgs 0).N (ix2 0 0) = Spec.spread fun s j => ∑ u ∈ Finset.range 64, blockCount C tok u s j := by
  obtain ⟨t, ht, -, h⟩ := last
  have := perp_at hI t ht
  rw [ht] at this
  exact (congrFun (arr_perp t h) _).trans this

/-! ## The results -/

theorem arr_at (w : Fin cfg0.W) : Pipeline.withArrays (cfgs 0).spec c (V0 m c) (fun w => (dats m 0 c).arrAt w (cfgs 0).N)
    (Proc.tc.devRef (Pipeline.arrRef spec0 w)) = (dats m 0 c).arrAt w (cfgs 0).N :=
  Pipeline.withArrays_arr _ (by decide) c _ _ w

theorem tail_sums (b : Fin 16) (i : Fin 64) (t : Fin 4096) :
    Pipeline.afterTail₀ cfgs (dats m) 0 (V0 m) [hostOps1] c main_v6 (ix3 b i t)
      = (dats m 0 c).arrAt 3 (cfgs 0).N (ix2 ⟨b.val * 4096 + t.val, by omega⟩ i) := by
  unfold Pipeline.afterTail₀
  rw [show [hostOps1 (F := Ideal)].flatten = hostOps1 from List.append_nil _]
  unfold_abbrev_sides
  after_reads_at
  exact congrFun (arr_at 3) _

theorem tail_loss : Pipeline.afterTail₀ cfgs (dats m) 0 (V0 m) [hostOps1] c main_v9
      = fun _ => Ideal.div ((dats m 0 c).arrAt 4 (cfgs 0).N (ix2 0 0)) (Ideal.ofBits .f32 1249902592#32) := by
  funext y
  unfold Pipeline.afterTail₀
  rw [show [hostOps1 (F := Ideal)].flatten = hostOps1 from List.append_nil _]
  unfold_abbrev_sides
  after_reads_at
  exact congrArg (fun x => Ideal.div x _) (congrFun (arr_at 4) _)

theorem tail_perp : Pipeline.afterTail₀ cfgs (dats m) 0 (V0 m) [hostOps1] c main_v11
      = fun _ => (dats m 0 c).arrAt 5 (cfgs 0).N (ix2 0 0) := by
  funext y
  unfold Pipeline.afterTail₀
  rw [show [hostOps1 (F := Ideal)].flatten = hostOps1 from List.append_nil _]
  unfold_abbrev_sides
  after_reads_at
  exact congrFun (arr_at 5) _

/-- The kernel's program ends with the three results of the quantiser. -/
theorem run (z : Dev nD → Fin 16 → Fin 64 → Fin 4096 → ℝ) (C : Dev nD → Fin 8 → Spec.Words)
    (hz : ∀ (c : Dev nD) b i t, m ((c : Thread nD τ).loc main_arg0) (ix3 b i t) = (z c b i t : EReal))
    (hC : ∀ (c : Dev nD) s j i, m ((c : Thread nD τ).loc main_arg1) (ix3 s j i) = (C c s j i : EReal)) :
    θ_run defs (onTc (τ := τ) (main (F := Ideal))) ⟨m, fun _ => 0, ρ⟩ (fun r => ∀ c : Dev nD,
      r.2.mem ((c.tc : Thread nD τ).loc main_v6) = Spec.outSum (z c) (C c)
      ∧ r.2.mem ((c.tc : Thread nD τ).loc main_v9) = Spec.outLoss (z c) (C c)
      ∧ r.2.mem ((c.tc : Thread nD τ).loc main_v11) = Spec.outPerp (z c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hI : ∀ c, Inputs m c (C c) (Spec.token (z c)) := fun c => inputs m c (z c) (C c) (hz c) (hC c)
  run_from run_main m ρ & unchanged m ρ
  · funext y
    obtain ⟨b, i, t, rfl⟩ : ∃ (b : Fin 16) (i : Fin 64) (t : Fin 4096), y = ix3 b i t := ⟨y 0, y 1, y 2, by blk_ext⟩
    refine (tail_sums b i t).trans ((final_sums (hI c) _ _).trans ?_)
    show _ = (Spec.got (C c) (Spec.token (z c) (4096 * b.val + t.val)) 8 i : EReal)
    rw [Nat.mul_comm 4096]
  · refine tail_loss.trans ?_
    funext y
    rw [final_loss (hI c)]
    have h : ∑ u ∈ Finset.range 64, blockLost (C c) (Spec.token (z c)) u
        = Spec.lost (C c) (fun n : Fin 65536 => Spec.token (z c) n.val) :=
      Spec.sum_tokens fun n => ∑ k ∈ Finset.range 8, Spec.err (C c) (Spec.token (z c) n) (k + 1)
    rw [h, Spec.million, Ideal.div_coe (by norm_num), ← EReal.coe_mul, mul_one_div]
    rfl
  · refine tail_perp.trans ?_
    funext y
    rw [final_perp (hI c)]
    have h : ∀ s j, ∑ u ∈ Finset.range 64, blockCount (C c) (Spec.token (z c)) u s j
        = Spec.count (C c) (fun n : Fin 65536 => Spec.token (z c) n.val) s j := fun s j =>
      Spec.sum_tokens fun n => if Spec.pick (C c) (Spec.token (z c) n) s.val = j then 1 else 0
    simp only [h]
    rfl

end Cert.Ker

end
-- ==== Proof.RefRun.lean ====
/- How the reference runs: its host operations listed by stretch, its loop of eight trips counted, and the contents
   every buffer ends with as one fold of those stretches over the starting contents. Hand-written, untrusted. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- What a buffer of a given shape and element type holds. -/
abbrev Arr (F : FTy → Type) [FloatOps F] (S : Shape) (e : EltTy) : Type := (⟨S, e⟩ : BufTy).Contents (Elt F)

/-! ## The stretches -/

/-- What runs before the loop: the transposed input, the zeroed accumulators, the counter. -/
abbrev headOps : List (HloOp τ sig (Elt F)) :=
  [ unary main_arg0 main_v0 ((transpose S16x4096x64 [0, 2, 1] · transposes_S16x64x4096_S16x4096x64_0_2_1) : Arr F S16x64x4096 .f32 → Arr F S16x4096x64 .f32),
    nullary main_cst (constant S_ .f32 0x00000000#32),
    unary main_cst main_v1 (broadcastInDim S16x4096x64 ![] bcast_S_S16x4096x64 : Arr F S_ .f32 → Arr F S16x4096x64 .f32),
    nullary main_cst_0 (constant S_ .f32 0x00000000#32),
    unary main_cst_0 main_v2 (broadcastInDim S8 ![] bcast_S_S8 : Arr F S_ .f32 → Arr F S8 .f32),
    nullary main_cst_1 (constant S_ .f32 0x00000000#32),
    unary main_cst_1 main_v3 (broadcastInDim S8 ![] bcast_S_S8 : Arr F S_ .f32 → Arr F S8 .f32),
    nullary main_c (constantI S_ 32 0#32),
    unary main_arg1 main_v4_0 id,
    unary main_c main_v4_1 id,
    unary main_v0 main_v4_2 id,
    unary main_v1 main_v4_3 id,
    unary main_v2 main_v4_4 id,
    unary main_v3 main_v4_5 id ]
theorem headOps_sub : (headOps : List (HloOp τ sig (Elt F))).Forall fun op => op.bufs ⊆ tcRefs τ sig :=
  ⟨unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩
/-- What runs after the loop: the transpose back and the two aggregates. -/
abbrev tailOps : List (HloOp τ sig (Elt F)) :=
  [ unary main_v4_3 main_v5 ((transpose S16x64x4096 [0, 2, 1] · transposes_S16x4096x64_S16x64x4096_0_2_1) : Arr F S16x4096x64 .f32 → Arr F S16x64x4096 .f32),
    nullary main_cst_2 (constant S_ .f32 0x00000000#32),
    binary main_v4_4 main_cst_2 main_v6 ((fun x v => Host.reduceAdd x v reducesTo_S8_S_d0 h_S_) : Arr F S8 .f32 → Arr F S_ .f32 → Arr F S_ .f32),
    nullary main_cst_3 (constant S_ .f32 0x3FA00000#32),
    binary main_cst_3 main_v6 main_v7 (mulf : Arr F S_ .f32 → Arr F S_ .f32 → Arr F S_ .f32),
    nullary main_cst_4 (constant S_ .f32 0x00000000#32),
    binary main_v4_5 main_cst_4 main_v8 ((fun x v => Host.reduceAdd x v reducesTo_S8_S_d0 h_S_) : Arr F S8 .f32 → Arr F S_ .f32 → Arr F S_ .f32),
    nullary main_cst_5 (constant S_ .f32 0x41000000#32),
    binary main_v8 main_cst_5 main_v9 (Host.divf : Arr F S_ .f32 → Arr F S_ .f32 → Arr F S_ .f32) ]
theorem tailOps_sub : (tailOps : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., nullary_bufs_sub .., binary_bufs_sub ..⟩
/-- The program is its head, its loop and its tail. -/
theorem main_chain (c : Dev nD) : main (F := F) c = (Pipeline.chain
  [ seq headOps,
    HostLoop.enter 0,
    seq tailOps ] :
    Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons]
  chain_rfl

/-- The stage's codebook, taken by the counter. -/
abbrev pickOps : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v4_0 : TRef sig ⟨S8x1024x64, .f32⟩) ![(.of main_v4_1 : TRef sig ⟨S_, .i32⟩), (.of main_while0b_call0_c : TRef sig ⟨S_, .i32⟩), (.of main_while0b_call0_c_0 : TRef sig ⟨S_, .i32⟩)] (.of main_while0b_call0_v0 : TRef sig ⟨S1x1024x64, .f32⟩) (fun x i => Host.dynamicSlice S1x1024x64 x (fun k => (i k (Shape.Idx.first h_S_)).toInt) sliceFits_S8x1024x64_S1x1024x64),
    TRef.reshape (.of main_while0b_call0_v0 : TRef sig ⟨S1x1024x64, .f32⟩) (.of main_while0b_v10 : TRef sig ⟨S1024x64, .f32⟩) (rfl : (.f32 : EltTy) = .f32) shapeCasts_S1x1024x64_S1024x64 ]
theorem pickOps_sub : (pickOps : List (HloOp τ sig (Elt F))).Forall fun op => op.bufs ⊆ tcRefs τ sig :=
  ⟨nullary_bufs_sub .., nullary_bufs_sub .., unaryIndexed_bufs_sub .., reshape_bufs_sub ..⟩
/-- The squared distances of every row to every code word. -/
abbrev distOps : List (HloOp τ sig (Elt F)) :=
  [ reshape main_v4_2 main_while0b_v11 (rfl : (.f32 : EltTy) = .f32) shapeCasts_S16x4096x64_S65536x64,
    binary main_while0b_v11 main_while0b_v11 main_while0b_v12 (mulf : Arr F S65536x64 .f32 → Arr F S65536x64 .f32 → Arr F S65536x64 .f32),
    nullary main_while0b_cst_11 (constant S_ .f32 0x00000000#32),
    binary main_while0b_v12 main_while0b_cst_11 main_while0b_v13 ((fun x v => Host.reduceAdd x v reducesTo_S65536x64_S65536_d1 h_S_) : Arr F S65536x64 .f32 → Arr F S_ .f32 → Arr F S65536 .f32),
    unary main_while0b_v13 main_while0b_v14 (broadcastInDim S65536x1 ![0] bcast_S65536_S65536x1_0 : Arr F S65536 .f32 → Arr F S65536x1 .f32),
    nullary main_while0b_cst_12 (constant S_ .f32 0x40000000#32),
    unary main_while0b_cst_12 main_while0b_v15 (broadcastInDim S65536x64 ![] bcast_S_S65536x64 : Arr F S_ .f32 → Arr F S65536x64 .f32),
    binary main_while0b_v15 main_while0b_v11 main_while0b_v16 (mulf : Arr F S65536x64 .f32 → Arr F S65536x64 .f32 → Arr F S65536x64 .f32),
    unary main_while0b_v10 main_while0b_v17 ((transpose S64x1024 [1, 0] · transposes_S1024x64_S64x1024_1_0) : Arr F S1024x64 .f32 → Arr F S64x1024 .f32),
    binary main_while0b_v16 main_while0b_v17 main_while0b_v18 ((fun l r => Host.dotGeneral dot_S65536x64_S64x1024_S65536x1024_1_0_0_1_n_n none l r) : Arr F S65536x64 .f32 → Arr F S64x1024 .f32 → Arr F S65536x1024 .f32),
    unary main_while0b_v14 main_while0b_v19 (broadcastInDim S65536x1024 ![0, 1] bcast_S65536x1_S65536x1024_0_1 : Arr F S65536x1 .f32 → Arr F S65536x1024 .f32),
    binary main_while0b_v19 main_while0b_v18 main_while0b_v20 (subf : Arr F S65536x1024 .f32 → Arr F S65536x1024 .f32 → Arr F S65536x1024 .f32),
    binary main_while0b_v10 main_while0b_v10 main_while0b_v21 (mulf : Arr F S1024x64 .f32 → Arr F S1024x64 .f32 → Arr F S1024x64 .f32),
    nullary main_while0b_cst_13 (constant S_ .f32 0x00000000#32),
    binary main_while0b_v21 main_while0b_cst_13 main_while0b_v22 ((fun x v => Host.reduceAdd x v reducesTo_S1024x64_S1024_d1 h_S_) : Arr F S1024x64 .f32 → Arr F S_ .f32 → Arr F S1024 .f32),
    unary main_while0b_v22 main_while0b_v23 (broadcastInDim S1x1024 ![1] bcast_S1024_S1x1024_1 : Arr F S1024 .f32 → Arr F S1x1024 .f32),
    unary main_while0b_v23 main_while0b_v24 (broadcastInDim S65536x1024 ![0, 1] bcast_S1x1024_S65536x1024_0_1 : Arr F S1x1024 .f32 → Arr F S65536x1024 .f32),
    binary main_while0b_v20 main_while0b_v24 main_while0b_v25 (addf : Arr F S65536x1024 .f32 → Arr F S65536x1024 .f32 → Arr F S65536x1024 .f32) ]
theorem distOps_sub : (distOps : List (HloOp τ sig (Elt F))).Forall fun op => op.bufs ⊆ tcRefs τ sig :=
  ⟨reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
/-- The nearest code word of every row, first on ties. -/
abbrev argOps : List (HloOp τ sig (Elt F)) :=
  [ TRef.nullary (.of main_while0b_call1_v0 : TRef sig ⟨S65536x1024, .i32⟩) (iotaInDim S65536x1024 32 1),
    TRef.nullary (.of main_while0b_call1_cst : TRef sig ⟨S_, .f32⟩) (constant S_ .f32 0x7F800000#32),
    TRef.nullary (.of main_while0b_call1_c : TRef sig ⟨S_, .i32⟩) (constantI S_ 32 0#32),
    TRef.quaternary (.of main_while0b_v25 : TRef sig ⟨S65536x1024, .f32⟩) (.of main_while0b_call1_v0 : TRef sig ⟨S65536x1024, .i32⟩) (.of main_while0b_call1_cst : TRef sig ⟨S_, .f32⟩) (.of main_while0b_call1_c : TRef sig ⟨S_, .i32⟩) (.of main_while0b_call1_v1_0 : TRef sig ⟨S65536, .f32⟩) (fun x y u v j => (Host.argReduce reducer_argmin_f32_i32 x y u v reducesTo_S65536x1024_S65536_d1 h_S_ j).1),
    TRef.quaternary (.of main_while0b_v25 : TRef sig ⟨S65536x1024, .f32⟩) (.of main_while0b_call1_v0 : TRef sig ⟨S65536x1024, .i32⟩) (.of main_while0b_call1_cst : TRef sig ⟨S_, .f32⟩) (.of main_while0b_call1_c : TRef sig ⟨S_, .i32⟩) (.of main_while0b_v26 : TRef sig ⟨S65536, .i32⟩) (fun x y u v j => (Host.argReduce reducer_argmin_f32_i32 x y u v reducesTo_S65536x1024_S65536_d1 h_S_ j).2) ]
theorem argOps_sub : (argOps : List (HloOp τ sig (Elt F))).Forall fun op => op.bufs ⊆ tcRefs τ sig :=
  ⟨nullary_bufs_sub .., nullary_bufs_sub .., nullary_bufs_sub .., quaternary_bufs_sub .., quaternary_bufs_sub ..⟩
/-- The gathered code words, the loss, the straight-through value, the counts and the perplexity, and the next residual. -/
abbrev stageOps : List (HloOp τ sig (Elt F)) :=
  ( nullary main_while0b_c_14 (constantI S_ 32 0#32)
  :: unary main_while0b_c_14 main_while0b_v27 (broadcastInDim S65536 ![] bcast_S_S65536 : Arr F S_ .i32 → Arr F S65536 .i32)
  :: binary main_while0b_v26 main_while0b_v27 main_while0b_v28 (cmpi .slt : Arr F S65536 .i32 → Arr F S65536 .i32 → Arr F S65536 .i1)
  :: nullary main_while0b_c_15 (constantI S_ 32 1024#32)
  :: unary main_while0b_c_15 main_while0b_v29 (broadcastInDim S65536 ![] bcast_S_S65536 : Arr F S_ .i32 → Arr F S65536 .i32)
  :: binary main_while0b_v26 main_while0b_v29 main_while0b_v30 (addi : Arr F S65536 .i32 → Arr F S65536 .i32 → Arr F S65536 .i32)
  :: ternary main_while0b_v28 main_while0b_v30 main_while0b_v26 main_while0b_v31 (select : Arr F S65536 .i1 → Arr F S65536 .i32 → Arr F S65536 .i32 → Arr F S65536 .i32)
  :: unary main_while0b_v31 main_while0b_v32 (broadcastInDim S65536x1 ![0] bcast_S65536_S65536x1_0 : Arr F S65536 .i32 → Arr F S65536x1 .i32)
  :: binary main_while0b_v10 main_while0b_v32 main_while0b_v33 ((fun x i => Host.gather gather_S1024x64_S65536x1_S65536x64_1_0_n_n_0_1_164 x i) : Arr F S1024x64 .f32 → Arr F S65536x1 .i32 → Arr F S65536x64 .f32)
  :: reshape main_while0b_v33 main_while0b_v34 (rfl : (.f32 : EltTy) = .f32) shapeCasts_S65536x64_S16x4096x64
  :: binary main_while0b_v34 main_v4_2 main_while0b_v35 (subf : Arr F S16x4096x64 .f32 → Arr F S16x4096x64 .f32 → Arr F S16x4096x64 .f32)
  :: binary main_while0b_v35 main_while0b_v35 main_while0b_v36 (mulf : Arr F S16x4096x64 .f32 → Arr F S16x4096x64 .f32 → Arr F S16x4096x64 .f32)
  :: nullary main_while0b_cst_16 (constant S_ .f32 0x00000000#32)
  :: binary main_while0b_v36 main_while0b_cst_16 main_while0b_v37 ((fun x v => Host.reduceAdd x v reducesTo_S16x4096x64_S_d0_1_2 h_S_) : Arr F S16x4096x64 .f32 → Arr F S_ .f32 → Arr F S_ .f32)
  :: nullary main_while0b_cst_17 (constant S_ .f32 0x4A800000#32)
  :: binary main_while0b_v37 main_while0b_cst_17 main_while0b_v38 (Host.divf : Arr F S_ .f32 → Arr F S_ .f32 → Arr F S_ .f32)
  :: binary main_while0b_v34 main_v4_2 main_while0b_v39 (subf : Arr F S16x4096x64 .f32 → Arr F S16x4096x64 .f32 → Arr F S16x4096x64 .f32)
  :: binary main_v4_2 main_while0b_v39 main_while0b_v40 (addf : Arr F S16x4096x64 .f32 → Arr F S16x4096x64 .f32 → Arr F S16x4096x64 .f32)
  :: nullary main_while0b_cst_18 (constant S_ .f32 0x00000000#32)
  :: unary main_while0b_cst_18 main_while0b_v41 (broadcastInDim S1024 ![] bcast_S_S1024 : Arr F S_ .f32 → Arr F S1024 .f32)
  :: nullary main_while0b_c_19 (constantI S_ 32 0#32)
  :: unary main_while0b_c_19 main_while0b_v42 (broadcastInDim S65536 ![] bcast_S_S65536 : Arr F S_ .i32 → Arr F S65536 .i32)
  :: binary main_while0b_v26 main_while0b_v42 main_while0b_v43 (cmpi .slt : Arr F S65536 .i32 → Arr F S65536 .i32 → Arr F S65536 .i1)
  :: nullary main_while0b_c_20 (constantI S_ 32 1024#32)
  :: unary main_while0b_c_20 main_while0b_v44 (broadcastInDim S65536 ![] bcast_S_S65536 : Arr F S_ .i32 → Arr F S65536 .i32)
  :: binary main_while0b_v26 main_while0b_v44 main_while0b_v45 (addi : Arr F S65536 .i32 → Arr F S65536 .i32 → Arr F S65536 .i32)
  :: ternary main_while0b_v43 main_while0b_v45 main_while0b_v26 main_while0b_v46 (select : Arr F S65536 .i1 → Arr F S65536 .i32 → Arr F S65536 .i32 → Arr F S65536 .i32)
  :: unary main_while0b_v46 main_while0b_v47 (broadcastInDim S65536x1 ![0] bcast_S65536_S65536x1_0 : Arr F S65536 .i32 → Arr F S65536x1 .i32)
  :: nullary main_while0b_cst_21 (constant S_ .f32 0x3F800000#32)
  :: unary main_while0b_cst_21 main_while0b_v48 (broadcastInDim S65536 ![] bcast_S_S65536 : Arr F S_ .f32 → Arr F S65536 .f32)
  :: ternary main_while0b_v41 main_while0b_v47 main_while0b_v48 main_while0b_v49 ((fun x i u => Host.scatterAdd scatter_S1024_S65536x1_S65536_n_0_0_1 x i u) : Arr F S1024 .f32 → Arr F S65536x1 .i32 → Arr F S65536 .f32 → Arr F S1024 .f32)
  :: nullary main_while0b_cst_22 (constant S_ .f32 0x47800000#32)
  :: unary main_while0b_cst_22 main_while0b_v50 (broadcastInDim S1024 ![] bcast_S_S1024 : Arr F S_ .f32 → Arr F S1024 .f32)
  :: binary main_while0b_v49 main_while0b_v50 main_while0b_v51 (Host.divf : Arr F S1024 .f32 → Arr F S1024 .f32 → Arr F S1024 .f32)
  :: nullary main_while0b_cst_23 (constant S_ .f32 0x2EDBE6FF#32)
  :: unary main_while0b_cst_23 main_while0b_v52 (broadcastInDim S1024 ![] bcast_S_S1024 : Arr F S_ .f32 → Arr F S1024 .f32)
  :: binary main_while0b_v51 main_while0b_v52 main_while0b_v53 (addf : Arr F S1024 .f32 → Arr F S1024 .f32 → Arr F S1024 .f32)
  :: unary main_while0b_v53 main_while0b_v54 (Host.log : Arr F S1024 .f32 → Arr F S1024 .f32)
  :: binary main_while0b_v51 main_while0b_v54 main_while0b_v55 (mulf : Arr F S1024 .f32 → Arr F S1024 .f32 → Arr F S1024 .f32)
  :: nullary main_while0b_cst_24 (constant S_ .f32 0x00000000#32)
  :: binary main_while0b_v55 main_while0b_cst_24 main_while0b_v56 ((fun x v => Host.reduceAdd x v reducesTo_S1024_S_d0 h_S_) : Arr F S1024 .f32 → Arr F S_ .f32 → Arr F S_ .f32)
  :: unary main_while0b_v56 main_while0b_v57 (Host.negf : Arr F S_ .f32 → Arr F S_ .f32)
  :: unary main_while0b_v57 main_while0b_v58 (Host.exp : Arr F S_ .f32 → Arr F S_ .f32)
  :: binary main_v4_2 main_while0b_v40 main_while0b_v59 (subf : Arr F S16x4096x64 .f32 → Arr F S16x4096x64 .f32 → Arr F S16x4096x64 .f32)
  :: binary main_v4_3 main_while0b_v40 main_while0b_v60 (addf : Arr F S16x4096x64 .f32 → Arr F S16x4096x64 .f32 → Arr F S16x4096x64 .f32)
  :: [] )
theorem stageOps_sub : (stageOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., binary_bufs_sub .., binary_bufs_sub ..⟩
/-- The stage's loss put into its place. -/
abbrev lossOps : List (HloOp τ sig (Elt F)) :=
  [ TRef.unary (.of main_while0b_v38 : TRef sig ⟨S_, .f32⟩) (.of main_while0b_call2_v0 : TRef sig ⟨S1, .f32⟩) (broadcastInDim S1 ![] bcast_S_S1),
    TRef.binaryIndexed (.of main_v4_4 : TRef sig ⟨S8, .f32⟩) (.of main_while0b_call2_v0 : TRef sig ⟨S1, .f32⟩) ![(.of main_v4_1 : TRef sig ⟨S_, .i32⟩)] (.of main_while0b_v61 : TRef sig ⟨S8, .f32⟩) (fun x u i => Host.dynamicUpdateSlice x u (fun k => (i k (Shape.Idx.first h_S_)).toInt) updateFits_S8_S1) ]
theorem lossOps_sub : (lossOps : List (HloOp τ sig (Elt F))).Forall fun op => op.bufs ⊆ tcRefs τ sig :=
  ⟨unary_bufs_sub .., binaryIndexed_bufs_sub ..⟩
/-- The stage's perplexity put into its place. -/
abbrev perpOps : List (HloOp τ sig (Elt F)) :=
  [ TRef.unary (.of main_while0b_v58 : TRef sig ⟨S_, .f32⟩) (.of main_while0b_call3_v0 : TRef sig ⟨S1, .f32⟩) (broadcastInDim S1 ![] bcast_S_S1),
    TRef.binaryIndexed (.of main_v4_5 : TRef sig ⟨S8, .f32⟩) (.of main_while0b_call3_v0 : TRef sig ⟨S1, .f32⟩) ![(.of main_v4_1 : TRef sig ⟨S_, .i32⟩)] (.of main_while0b_v62 : TRef sig ⟨S8, .f32⟩) (fun x u i => Host.dynamicUpdateSlice x u (fun k => (i k (Shape.Idx.first h_S_)).toInt) updateFits_S8_S1) ]
theorem perpOps_sub : (perpOps : List (HloOp τ sig (Elt F))).Forall fun op => op.bufs ⊆ tcRefs τ sig :=
  ⟨unary_bufs_sub .., binaryIndexed_bufs_sub ..⟩
/-- The counter advanced, and the carried arrays replaced. -/
abbrev backOps : List (HloOp τ sig (Elt F)) :=
  [ nullary main_while0b_c_25 (constantI S_ 32 1#32),
    binary main_v4_1 main_while0b_c_25 main_while0b_v63 (addi : Arr F S_ .i32 → Arr F S_ .i32 → Arr F S_ .i32),
    unary main_while0b_v63 main_v4_1 id,
    unary main_while0b_v59 main_v4_2 id,
    unary main_while0b_v60 main_v4_3 id,
    unary main_while0b_v61 main_v4_4 id,
    unary main_while0b_v62 main_v4_5 id ]
theorem backOps_sub : (backOps : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
/-- The loop body is its stretches in order. -/
theorem body_chain : main_while0_body (F := F) = (Pipeline.chain
  [ seq pickOps,
    seq distOps,
    seq argOps,
    seq stageOps,
    seq lossOps,
    seq perpOps,
    seq backOps ] : Prog (TpuEff nD τ sig (Elt F) (HostLoop.Sig (Pipeline.Sig Λ₀ (Fin 0) fun p => (pcfgs (F := F) p).Adm) 1) .tc) PUnit) := by
  rewrite [Pipeline.chain_cons, chain_seq_cons, Pipeline.chain_cons, chain_seq_cons, Pipeline.chain_cons, Pipeline.chain_cons, chain_seq_cons]
  chain_rfl

/-! ## The fold -/

/-- What the loop's test runs: the bound, and the counter compared with it. -/
abbrev testOps : List (HloOp τ sig (Elt F)) :=
  [ nullary main_while0c_c_11 (constantI S_ 32 8#32),
    binary main_v4_1 main_while0c_c_11 main_while0c_v10 (cmpi .slt) ]

/-- The stretches before the loop, of a trip, and after the loop. -/
abbrev before : List (List (HloOp τ sig (Elt F))) := [headOps]
abbrev trip : List (List (HloOp τ sig (Elt F))) := [pickOps, distOps, argOps, stageOps, lossOps, perpOps, backOps]
abbrev behind : List (List (HloOp τ sig (Elt F))) := [tailOps]

theorem fresh_of {ops : List (HloOp τ sig (Elt F))} (h : ops.map (fun op => op.fresh) = ops.map fun _ => ∅) :
    ∀ op ∈ ops, op.fresh = ∅ := List.forall_iff_forall_mem.mp (forall_fresh_of_map h)

theorem plain_before : Plain (before (F := F)) := .cons headOps_sub (hf := fresh_of rfl) .nil
theorem plain_trip : Plain (trip (F := F)) :=
  .cons pickOps_sub (hf := fresh_of rfl) (.cons distOps_sub (hf := fresh_of rfl) (.cons argOps_sub (hf := fresh_of rfl)
    (.cons stageOps_sub (hf := fresh_of rfl) (.cons lossOps_sub (hf := fresh_of rfl) (.cons perpOps_sub (hf := fresh_of rfl)
      (.cons backOps_sub (hf := fresh_of rfl) .nil))))))
theorem plain_behind : Plain (behind (F := F)) := .cons tailOps_sub (hf := fresh_of rfl) .nil

variable (m : (ℓ : Loc nD τ sig) → Buf (Elt F) ℓ) (ρ : Dev nD → PrngReg)

/-- Every buffer's contents before the `k`-th test. -/
abbrev atK (k : ℕ) (c : Dev nD) : Valuation τ sig (Elt F) := atTrip testOps trip (entryContents before m) k c

set_option maxRecDepth 100000 in
/-- One test and one trip advance the counter by one. -/
theorem ctr_trip (V : Valuation τ sig (Elt F)) :
    afterL trip (after testOps V) (Proc.devRef .tc main_v4_1) = addi (V (Proc.devRef .tc main_v4_1)) (constantI S_ 32 1#32) := by
  simp only [afterL_cons, afterL_nil]
  after_reads_simp
  rfl

set_option maxRecDepth 100000 in
/-- The counter starts at zero. -/
theorem ctr_entry (c : Dev nD) : entryContents before m c (Proc.devRef .tc main_v4_1) = fun _ => (0#32 : BitVec 32) := by
  simp only [entryContents, afterL_cons, afterL_nil]
  after_reads_simp
  rfl

/-- Before the `k`-th test the counter is `k`. -/
theorem ctr_at (c : Dev nD) : ∀ k, atK m k c (Proc.devRef .tc main_v4_1) = fun _ => Scf.iv 0#32 1#32 k
  | 0 => by rw [show atK m 0 c = entryContents before m c from rfl, ctr_entry, Scf.iv_zero]
  | k + 1 => by
    rw [show atK m (k + 1) c = afterL trip (after testOps (atK m k c)) from rfl, ctr_trip, ctr_at c k, Scf.iv_succ]
    rfl

set_option backward.isDefEq.respectTransparency.types false in
/-- The test admits exactly the trips below the eighth. -/
theorem test_spec : CondSpec (pcfgs (F := F)) defs₀ loops (main_while0_cond (F := F)) testOps trip (entryContents before m) 8 := by
  intro k hk c bd
  have hctr := ctr_at m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_11 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

set_option maxRecDepth 100000 in
/-- From any memory the reference ends with every array at the fold of its stretches. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents testOps before trip behind 8 m c (Proc.devRef .tc b)) :=
  run_loop (pcfgs (F := F)) defs₀ loops main 0 main_while0_cond main_while0_body rfl before trip behind testOps
    plain_before plain_trip plain_behind (fun c => by rw [main_chain]; rfl) (by rw [body_chain]; rfl) 8 m ρ (test_spec m)

end Cert.Ref

end
-- ==== Proof.RefStep.lean ====
/- One trip of the reference's loop as functions of arrays, and the reference's three results as eight trips of them.
   Hand-written, untrusted. -/
module

public import proofs.«01_k».proof.Proof.RefRun

@[expose] public section

noncomputable section

namespace Cert.Ref

open Cert.ReferenceIdeal Cert.ReferenceIdeal.Gen
open Idealize.ShloMosaic Idealize.ShloMosaic.TcCoe Idealize.SL.Sem Idealize.ShloMosaic.StableHlo

variable {F : FTy → Type} [FloatOps F]

/-! ## A trip's parts -/

/-- The stage's codebook. -/
def book (cbs : Arr F S8x1024x64 .f32) (k : Arr F S_ .i32) : Arr F S1024x64 .f32 :=
  shapeCast S1024x64 (Host.dynamicSlice S1x1024x64 cbs
    (fun a => ((![k, constantI S_ 32 0#32, constantI S_ 32 0#32] : Fin 3 → Arr F S_ .i32) a (Shape.Idx.first h_S_)).toInt)
    sliceFits_S8x1024x64_S1x1024x64) shapeCasts_S1x1024x64_S1024x64

/-- The residual as one row per token. -/
def flat (res : Arr F S16x4096x64 .f32) : Arr F S65536x64 .f32 := shapeCast S65536x64 res shapeCasts_S16x4096x64_S65536x64

/-- The squared distance of every row to every code word. -/
def dist (x : Arr F S65536x64 .f32) (cb : Arr F S1024x64 .f32) : Arr F S65536x1024 .f32 :=
  addf
    (subf
      (broadcastInDim S65536x1024 ![0, 1] bcast_S65536x1_S65536x1024_0_1
        (broadcastInDim S65536x1 ![0] bcast_S65536_S65536x1_0
          (Host.reduceAdd (mulf x x) (constant S_ .f32 0x00000000#32) reducesTo_S65536x64_S65536_d1 h_S_)))
      (Host.dotGeneral dot_S65536x64_S64x1024_S65536x1024_1_0_0_1_n_n none
        (mulf (broadcastInDim S65536x64 ![] bcast_S_S65536x64 (constant S_ .f32 0x40000000#32)) x)
        (transpose S64x1024 [1, 0] cb transposes_S1024x64_S64x1024_1_0)))
    (broadcastInDim S65536x1024 ![0, 1] bcast_S1x1024_S65536x1024_0_1
      (broadcastInDim S1x1024 ![1] bcast_S1024_S1x1024_1
        (Host.reduceAdd (mulf cb cb) (constant S_ .f32 0x00000000#32) reducesTo_S1024x64_S1024_d1 h_S_)))

/-- The first nearest code word of every row. -/
def nearest (d : Arr F S65536x1024 .f32) : Arr F S65536 .i32 :=
  fun j => (Host.argReduce reducer_argmin_f32_i32 d (iotaInDim S65536x1024 32 1) (constant S_ .f32 0x7F800000#32)
    (constantI S_ 32 0#32) reducesTo_S65536x1024_S65536_d1 h_S_ j).2

/-- Indices as gather and scatter take them: a negative one counted from the end. -/
def wrapped (i : Arr F S65536 .i32) : Arr F S65536x1 .i32 :=
  broadcastInDim S65536x1 ![0] bcast_S65536_S65536x1_0
    (select (cmpi .slt i (broadcastInDim S65536 ![] bcast_S_S65536 (constantI S_ 32 0#32)))
      (addi i (broadcastInDim S65536 ![] bcast_S_S65536 (constantI S_ 32 1024#32))) i)

/-- The code words at the indices. -/
def words (cb : Arr F S1024x64 .f32) (i : Arr F S65536 .i32) : Arr F S16x4096x64 .f32 :=
  shapeCast S16x4096x64 (Host.gather gather_S1024x64_S65536x1_S65536x64_1_0_n_n_0_1_164 cb (wrapped i))
    shapeCasts_S65536x64_S16x4096x64

/-- The mean squared error of the chosen words. -/
def lossOf (res q : Arr F S16x4096x64 .f32) : Arr F S_ .f32 :=
  Host.divf (Host.reduceAdd (mulf (subf q res) (subf q res)) (constant S_ .f32 0x00000000#32) reducesTo_S16x4096x64_S_d0_1_2 h_S_)
    (constant S_ .f32 0x4A800000#32)

/-- The straight-through value. -/
def through (res q : Arr F S16x4096x64 .f32) : Arr F S16x4096x64 .f32 := addf res (subf q res)

/-- How often each code word is chosen. -/
def countsOf (i : Arr F S65536 .i32) : Arr F S1024 .f32 :=
  Host.scatterAdd scatter_S1024_S65536x1_S65536_n_0_0_1 (broadcastInDim S1024 ![] bcast_S_S1024 (constant S_ .f32 0x00000000#32))
    (wrapped i) (broadcastInDim S65536 ![] bcast_S_S65536 (constant S_ .f32 0x3F800000#32))

/-- The frequencies. -/
def freqOf (n : Arr F S1024 .f32) : Arr F S1024 .f32 :=
  Host.divf n (broadcastInDim S1024 ![] bcast_S_S1024 (constant S_ .f32 0x47800000#32))

/-- The perplexity of frequencies. -/
def perpOf (p : Arr F S1024 .f32) : Arr F S_ .f32 :=
  Host.exp (Host.negf (Host.reduceAdd
    (mulf p (Host.log (addf p (broadcastInDim S1024 ![] bcast_S_S1024 (constant S_ .f32 0x2EDBE6FF#32)))))
    (constant S_ .f32 0x00000000#32) reducesTo_S1024_S_d0 h_S_))

/-- A scalar put into its place. -/
def put (xs : Arr F S8 .f32) (x : Arr F S_ .f32) (k : Arr F S_ .i32) : Arr F S8 .f32 :=
  Host.dynamicUpdateSlice xs (broadcastInDim S1 ![] bcast_S_S1 x)
    (fun a => ((![k] : Fin 1 → Arr F S_ .i32) a (Shape.Idx.first h_S_)).toInt) updateFits_S8_S1

/-- What a trip hands the next. -/
structure State (F : FTy → Type) [FloatOps F] where
  res : Arr F S16x4096x64 .f32
  sum : Arr F S16x4096x64 .f32
  losses : Arr F S8 .f32
  perps : Arr F S8 .f32

/-- The indices a trip chooses. -/
def chosen (cb : Arr F S1024x64 .f32) (res : Arr F S16x4096x64 .f32) : Arr F S65536 .i32 := nearest (dist (flat res) cb)

/-- One trip. -/
def step (cbs : Arr F S8x1024x64 .f32) (k : Arr F S_ .i32) (s : State F) : State F :=
  let cb := book cbs k
  let q := words cb (chosen cb s.res)
  { res := subf s.res (through s.res q)
    sum := addf s.sum (through s.res q)
    losses := put s.losses (lossOf s.res q) k
    perps := put s.perps (perpOf (freqOf (countsOf (chosen cb s.res)))) k }

/-- The carried arrays of a valuation. -/
def held (V : Valuation τ sig (Elt F)) : State F :=
  ⟨V (Proc.devRef .tc main_v4_2), V (Proc.devRef .tc main_v4_3), V (Proc.devRef .tc main_v4_4), V (Proc.devRef .tc main_v4_5)⟩

set_option maxRecDepth 100000 in
theorem trip_cbs (V : Valuation τ sig (Elt F)) :
    afterL trip (after testOps V) (Proc.devRef .tc main_v4_0) = V (Proc.devRef .tc main_v4_0) := by
  simp only [afterL_cons, afterL_nil]
  after_reads_simp

/-- The contents once a trip has chosen its indices. -/
abbrev chose (V : Valuation τ sig (Elt F)) : Valuation τ sig (Elt F) :=
  after argOps (after distOps (after pickOps (after testOps V)))

set_option maxRecDepth 100000 in
theorem arg_read (V : Valuation τ sig (Elt F)) :
    after argOps V (Proc.devRef .tc main_while0b_v26) = nearest (V (Proc.devRef .tc main_while0b_v25)) := by
  after_reads_simp
  rfl

set_option maxRecDepth 100000 in
theorem dist_read (V : Valuation τ sig (Elt F)) : after distOps V (Proc.devRef .tc main_while0b_v25)
    = dist (flat (V (Proc.devRef .tc main_v4_2))) (V (Proc.devRef .tc main_while0b_v10)) := by
  after_reads_simp
  rfl

set_option maxRecDepth 100000 in
theorem chose_book (V : Valuation τ sig (Elt F)) : chose V (Proc.devRef .tc main_while0b_v10)
    = book (V (Proc.devRef .tc main_v4_0)) (V (Proc.devRef .tc main_v4_1)) := by
  after_reads_simp [unaryIndexed_result_read, binaryIndexed_result_read, indexContents_tref_cons, indexContents_tref_empty,
    TRef.ofBuf_toBuf]
  rfl

set_option maxRecDepth 100000 in
theorem chose_idx (V : Valuation τ sig (Elt F)) : chose V (Proc.devRef .tc main_while0b_v26)
    = chosen (book (V (Proc.devRef .tc main_v4_0)) (V (Proc.devRef .tc main_v4_1))) (V (Proc.devRef .tc main_v4_2)) := by
  rw [chose, arg_read, dist_read]
  after_reads_simp [unaryIndexed_result_read, binaryIndexed_result_read, indexContents_tref_cons, indexContents_tref_empty,
    TRef.ofBuf_toBuf]
  rfl

set_option maxRecDepth 100000 in
theorem chose_held (V : Valuation τ sig (Elt F)) : held (chose V) = held V
    ∧ chose V (Proc.devRef .tc main_v4_1) = V (Proc.devRef .tc main_v4_1) := by
  unfold held
  after_reads_simp [unaryIndexed_result_read, binaryIndexed_result_read, indexContents_tref_cons, indexContents_tref_empty,
    TRef.ofBuf_toBuf]
  exact ⟨trivial, trivial⟩

/-- The contents once the stage is computed. -/
abbrev staged (V : Valuation τ sig (Elt F)) : Valuation τ sig (Elt F) :=
  after backOps (after perpOps (after lossOps (after stageOps V)))

set_option maxRecDepth 100000 in
/-- The stage's four carried arrays, from any contents. -/
theorem stage_read (V : Valuation τ sig (Elt F)) : held (staged V)
    = { res := subf (held V).res (through (held V).res (words (V (Proc.devRef .tc main_while0b_v10)) (V (Proc.devRef .tc main_while0b_v26))))
        sum := addf (held V).sum (through (held V).res (words (V (Proc.devRef .tc main_while0b_v10)) (V (Proc.devRef .tc main_while0b_v26))))
        losses := put (held V).losses (lossOf (held V).res (words (V (Proc.devRef .tc main_while0b_v10)) (V (Proc.devRef .tc main_while0b_v26))))
          (V (Proc.devRef .tc main_v4_1))
        perps := put (held V).perps (perpOf (freqOf (countsOf (V (Proc.devRef .tc main_while0b_v26))))) (V (Proc.devRef .tc main_v4_1)) } := by
  unfold held
  after_reads_simp [unaryIndexed_result_read, binaryIndexed_result_read, indexContents_tref_cons, indexContents_tref_empty,
    TRef.ofBuf_toBuf]
  rfl

/-- One test and one trip advance the carried arrays by `step`. -/
theorem held_trip (V : Valuation τ sig (Elt F)) :
    held (afterL trip (after testOps V)) = step (V (Proc.devRef .tc main_v4_0)) (V (Proc.devRef .tc main_v4_1)) (held V) := by
  rw [show afterL trip (after testOps V) = staged (chose V) from rfl, stage_read, chose_book, chose_idx, (chose_held V).1,
    (chose_held V).2]
  rfl

/-! ## Before, through and after the loop -/

/-- The loop counter at trip `k`. -/
abbrev ctr (F : FTy → Type) [FloatOps F] (k : ℕ) : Arr F S_ .i32 := fun _ => Scf.iv 0#32 1#32 k

/-- The carried arrays before the first trip. -/
def start (z : Arr F S16x64x4096 .f32) : State F :=
  { res := transpose S16x4096x64 [0, 2, 1] z transposes_S16x64x4096_S16x4096x64_0_2_1
    sum := broadcastInDim S16x4096x64 ![] bcast_S_S16x4096x64 (constant S_ .f32 0x00000000#32)
    losses := broadcastInDim S8 ![] bcast_S_S8 (constant S_ .f32 0x00000000#32)
    perps := broadcastInDim S8 ![] bcast_S_S8 (constant S_ .f32 0x00000000#32) }

/-- The carried arrays before trip `k`. -/
def states (z : Arr F S16x64x4096 .f32) (cbs : Arr F S8x1024x64 .f32) : ℕ → State F
  | 0 => start z
  | k + 1 => step cbs (ctr F k) (states z cbs k)

/-- The first result: the summed quantised values. -/
def outSum (s : State F) : Arr F S16x64x4096 .f32 := transpose S16x64x4096 [0, 2, 1] s.sum transposes_S16x4096x64_S16x64x4096_0_2_1

/-- The second result: the weighted sum of the losses. -/
def outLoss (s : State F) : Arr F S_ .f32 :=
  mulf (constant S_ .f32 0x3FA00000#32) (Host.reduceAdd s.losses (constant S_ .f32 0x00000000#32) reducesTo_S8_S_d0 h_S_)

/-- The third result: the mean perplexity. -/
def outPerp (s : State F) : Arr F S_ .f32 :=
  Host.divf (Host.reduceAdd s.perps (constant S_ .f32 0x00000000#32) reducesTo_S8_S_d0 h_S_) (constant S_ .f32 0x41000000#32)

variable (m : (ℓ : Loc nD τ sig) → Buf (Elt F) ℓ) (ρ : Dev nD → PrngReg)

/-- The two arguments on a device. -/
abbrev argZ (c : Dev nD) : Arr F S16x64x4096 .f32 := m ((c.tc : Thread nD τ).loc main_arg0)
abbrev argC (c : Dev nD) : Arr F S8x1024x64 .f32 := m ((c.tc : Thread nD τ).loc main_arg1)

set_option maxRecDepth 100000 in
theorem entry_held (c : Dev nD) : held (entryContents before m c) = start (argZ m c) := by
  unfold held
  simp only [entryContents, afterL_cons, afterL_nil]
  after_reads_simp
  rfl

set_option maxRecDepth 100000 in
theorem entry_cbs (c : Dev nD) : entryContents before m c (Proc.devRef .tc main_v4_0) = argC m c := by
  simp only [entryContents, afterL_cons, afterL_nil]
  after_reads_simp
  rfl

theorem cbs_at (c : Dev nD) : ∀ k, atK m k c (Proc.devRef .tc main_v4_0) = argC m c
  | 0 => entry_cbs m c
  | k + 1 => by
    rw [show atK m (k + 1) c = afterL trip (after testOps (atK m k c)) from rfl, trip_cbs, cbs_at c k]

/-- Before the `k`-th test the carried arrays are `states` at `k`. -/
theorem held_at (c : Dev nD) : ∀ k, held (atK m k c) = states (argZ m c) (argC m c) k
  | 0 => entry_held m c
  | k + 1 => by
    rw [show atK m (k + 1) c = afterL trip (after testOps (atK m k c)) from rfl, held_trip, cbs_at, ctr_at, held_at c k]
    rfl

set_option maxRecDepth 100000 in
theorem final_sum (V : Valuation τ sig (Elt F)) :
    afterL behind (after testOps V) (Proc.devRef .tc main_v5) = outSum (held V) := by
  simp only [afterL_cons, afterL_nil]
  after_reads_simp
  rfl

set_option maxRecDepth 100000 in
theorem final_loss (V : Valuation τ sig (Elt F)) :
    afterL behind (after testOps V) (Proc.devRef .tc main_v7) = outLoss (held V) := by
  simp only [afterL_cons, afterL_nil]
  after_reads_simp
  rfl

set_option maxRecDepth 100000 in
theorem final_perp (V : Valuation τ sig (Elt F)) :
    afterL behind (after testOps V) (Proc.devRef .tc main_v9) = outPerp (held V) := by
  simp only [afterL_cons, afterL_nil]
  after_reads_simp
  rfl

/-- A buffer that no stretch writes keeps its contents to the end. -/
theorem final_keep (b : Ref sig .tc)
    (hb : ∀ V : Valuation τ sig (Elt F), afterL before V (Proc.devRef .tc b) = V (Proc.devRef .tc b))
    (ht : ∀ V : Valuation τ sig (Elt F), afterL trip (after testOps V) (Proc.devRef .tc b) = V (Proc.devRef .tc b))
    (he : ∀ V : Valuation τ sig (Elt F), afterL behind (after testOps V) (Proc.devRef .tc b) = V (Proc.devRef .tc b)) (c : Dev nD) :
    finalContents testOps before trip behind 8 m c (Proc.devRef .tc b) = m ((c.tc : Thread nD τ).loc b) := by
  have h : ∀ k, atK m k c (Proc.devRef .tc b) = m ((c.tc : Thread nD τ).loc b) := fun k => by
    induction k with
    | zero => exact hb _
    | succ k ih => exact (ht _).trans ih
  exact (he _).trans (h 8)

set_option maxRecDepth 100000 in
/-- The reference ends with its three results read off the eighth state, its arguments unchanged. -/
theorem run : θ_run (defs (F := F)) (onTc (τ := τ) (main (F := F))) ⟨m, fun _ => 0, ρ⟩ fun r => ∀ c : Dev nD,
    r.2.mem ((c.tc : Thread nD τ).loc main_v5) = outSum (states (argZ m c) (argC m c) 8)
    ∧ r.2.mem ((c.tc : Thread nD τ).loc main_v7) = outLoss (states (argZ m c) (argC m c) 8)
    ∧ r.2.mem ((c.tc : Thread nD τ).loc main_v9) = outPerp (states (argZ m c) (argC m c) 8)
    ∧ r.2.mem ((c.tc : Thread nD τ).loc main_arg0) = m ((c.tc : Thread nD τ).loc main_arg0)
    ∧ r.2.mem ((c.tc : Thread nD τ).loc main_arg1) = m ((c.tc : Thread nD τ).loc main_arg1) := by
  refine (θ_run defs _ _).mono (fun r h c => ⟨?_, ?_, ?_, ?_, ?_⟩) (run_fold m ρ)
  · rw [h c main_v5 rfl, ← held_at m c 8]; exact final_sum _
  · rw [h c main_v7 rfl, ← held_at m c 8]; exact final_loss _
  · rw [h c main_v9 rfl, ← held_at m c 8]; exact final_perp _
  all_goals
    rw [h c _ rfl]
    refine final_keep m _ (fun V => ?_) (fun V => ?_) (fun V => ?_) c <;>
      (simp only [afterL_cons, afterL_nil]; after_reads_simp)

/-- The reference ends, its arguments unchanged and every semaphore at zero: it declares none. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => (h c).2.2.2, sem_eq_zero_of_no_sems (by decide) r.2⟩) (run m ρ)

end Cert.Ref

end
-- ==== Proof.RefOps.lean ====
/- What the reference's operations hold at a place, over the extended reals. Hand-written, untrusted. -/
module

public import proofs.«01_k».proof.Proof.RefStep
public import proofs.«01_k».proof.Proof.Spec
public import Idealize.ShloMosaic.Lib.Pointwise
public import Idealize.ShloMosaic.Lib.Pipeline.ValueKit
public import Idealize.ShloMosaic.Lib.Routing.Ops
public import Idealize.ShloMosaic.Lib.Routing.OpsPair

@[expose] public section

set_option maxRecDepth 16384

noncomputable section

namespace Cert.Ref

open Cert.ReferenceIdeal Cert.ReferenceIdeal.Gen
open Idealize.ShloMosaic Idealize.ShloMosaic.TcCoe Idealize.SL.Sem Idealize.ShloMosaic.StableHlo

/-! ## The first least column -/

/-- One comparison of two columns that hold real numbers: the lesser stays, and the earlier of two equal ones. -/
theorem argmin_pair (x y : ℝ) (a b : BitVec 32) :
    reducer_argmin_f32_i32 (F := Ideal) ((x : EReal), a) ((y : EReal), b)
      = if x < y ∨ (x = y ∧ a.toInt < b.toInt) then ((x : EReal), a) else ((y : EReal), b) := by
  unfold reducer_argmin_f32_i32
  simp only [Ideal.cmpf_def, Ideal.cmp, Scalar.select, IntOp.ori, IntOp.andi, IntOp.cmpi, EReal.coe_lt_coe_iff, EReal.coe_eq_coe_iff,
    ne_eq, not_true_eq_false, BitVec.slt]
  by_cases h₁ : x < y <;> by_cases h₂ : x = y <;> by_cases h₃ : a.toInt < b.toInt <;> simp [h₁, h₂, h₃]

/-- Against the value the search starts from a column stays. -/
theorem argmin_top (y : ℝ) (a b : BitVec 32) :
    reducer_argmin_f32_i32 (F := Ideal) ((⊤ : EReal), a) ((y : EReal), b) = ((y : EReal), b) := by
  unfold reducer_argmin_f32_i32
  simp [Ideal.cmpf_def, Ideal.cmp, Scalar.select, IntOp.ori, IntOp.andi, IntOp.cmpi]

/-- The search over columns in any order, each holding its number: it ends at the first least. -/
theorem argmin_fold (e : Fin 1024 → ℝ) (w : BitVec 32) (L : List (EReal × BitVec 32))
    (hL : ∀ p ∈ L, ∃ k : Fin 1024, p = ((e k : EReal), BitVec.ofNat 32 k.val))
    (hj : ((e (Spec.first e) : EReal), BitVec.ofNat 32 (Spec.first e).val) ∈ L) :
    L.foldl (reducer_argmin_f32_i32 (F := Ideal)) ((⊤ : EReal), w)
      = ((e (Spec.first e) : EReal), BitVec.ofNat 32 (Spec.first e).val) := by
  have key : ∀ (L : List (EReal × BitVec 32)) (r : EReal × BitVec 32),
      (∀ p ∈ L, ∃ k : Fin 1024, p = ((e k : EReal), BitVec.ofNat 32 k.val)) →
      (r = ((⊤ : EReal), w) ∨ ∃ k : Fin 1024, r = ((e k : EReal), BitVec.ofNat 32 k.val)) →
      (r = ((e (Spec.first e) : EReal), BitVec.ofNat 32 (Spec.first e).val)
        ∨ ((e (Spec.first e) : EReal), BitVec.ofNat 32 (Spec.first e).val) ∈ L) →
      L.foldl (reducer_argmin_f32_i32 (F := Ideal)) r
        = ((e (Spec.first e) : EReal), BitVec.ofNat 32 (Spec.first e).val) := by
    intro L
    induction L with
    | nil => intro r _ _ h; simpa using h
    | cons p L ih =>
      intro r hL hr h
      obtain ⟨k, rfl⟩ := hL p (by simp)
      rw [List.foldl_cons]
      have hL' : ∀ q ∈ L, ∃ k : Fin 1024, q = ((e k : EReal), BitVec.ofNat 32 k.val) := fun q hq => hL q (by simp [hq])
      rcases hr with rfl | ⟨i, rfl⟩
      · rw [argmin_top]
        refine ih _ hL' (Or.inr ⟨k, rfl⟩) ?_
        rcases h with h | h
        · exact absurd (congrArg Prod.fst h) (EReal.coe_ne_top _).symm
        · exact (List.mem_cons.mp h).imp Eq.symm id
      · rw [argmin_pair]
        have ci : (BitVec.ofNat 32 i.val).toInt = (i.val : Int) := StableHlo.Predicate.toInt_ofNat_small _ (by omega)
        have ck : (BitVec.ofNat 32 k.val).toInt = (k.val : Int) := StableHlo.Predicate.toInt_ofNat_small _ (by omega)
        have inj : ∀ a b : Fin 1024, BitVec.ofNat 32 a.val = BitVec.ofNat 32 b.val → a = b := fun a b hab => by
          have := congrArg BitVec.toNat hab
          simp only [BitVec.toNat_ofNat] at this
          exact Fin.ext (by omega)
        rw [ci, ck]
        split
        · next hc =>
          refine ih _ hL' (Or.inr ⟨i, rfl⟩) ?_
          rcases h with h | h
          · exact Or.inl h
          · rcases List.mem_cons.mp h with h | h
            · obtain rfl := inj _ _ (congrArg Prod.snd h)
              rcases hc with hc | ⟨hc, hlt⟩
              · exact absurd (Spec.first_le e i) (not_le.mpr hc)
              · exact absurd (Spec.first_lt e i (by exact_mod_cast hlt)) (by rw [hc]; exact lt_irrefl _)
            · exact Or.inr h
        · next hc =>
          refine ih _ hL' (Or.inr ⟨k, rfl⟩) ?_
          rcases h with h | h
          · obtain rfl := inj _ _ (congrArg Prod.snd h)
            left
            have hle := Spec.first_le e k
            push Not at hc
            have heq : e (Spec.first e) = e k := le_antisymm hle hc.1
            have hki := hc.2 heq
            rcases lt_or_eq_of_le (show k ≤ Spec.first e by exact_mod_cast hki) with hlt | hk
            · exact absurd (Spec.first_lt e k hlt) (by rw [heq]; exact lt_irrefl _)
            · rw [hk]
          · exact (List.mem_cons.mp h).imp Eq.symm id
  exact key L _ hL (Or.inl rfl) (Or.inr hj)

/-- The search along a row whose columns hold real numbers. -/
theorem argmin_row {N : ℕ} (h : (⟨2, ![N, 1024]⟩ : Shape).ReducesTo [1] ⟨1, ![N]⟩) (hu : 0 < S_.numel)
    (d : (⟨2, ![N, 1024]⟩ : Shape).Idx → EReal) (y : (⟨2, ![N, 1024]⟩ : Shape).Idx → BitVec 32)
    (ix : S_.Idx → EReal) (iy : S_.Idx → BitVec 32) (hix : ∀ j, ix j = ⊤) (hy : ∀ a k, y (ix2 a k) = BitVec.ofNat 32 k.val)
    (a : Fin N) (e : Fin 1024 → ℝ) (hd : ∀ k, d (ix2 a k) = (e k : EReal)) :
    Host.argReduce (F := Ideal) (φ := .f32) reducer_argmin_f32_i32 d y ix iy h hu (ix1 a)
      = ((e (Spec.first e) : EReal), BitVec.ofNat 32 (Spec.first e).val) := by
  have k₀ : 0 < ((⟨2, ![N, 1024]⟩ : Shape).kept [1]).length := by
    show 0 < ((List.finRange 2).filter fun x => x ∉ [(1 : Fin 2)]).length
    decide
  have k₁ : ((⟨2, ![N, 1024]⟩ : Shape).kept [1])[0]'k₀ = 0 := by
    show ((List.finRange 2).filter fun x => x ∉ [(1 : Fin 2)])[0]'(by decide) = 0
    decide
  have drop2 : ∀ (a' : Fin N) (k : Fin 1024), h.drop (ix2 a' k) = ix1 a' := fun a' k => by
    funext b
    refine Fin.ext ?_
    match b with
    | ⟨0, _⟩ => exact h.drop_apply_val_of_eq _ 0 0 k₀ k₁
  rw [Ideal.argReduce_eq_reduce2, Host.reduce2_eq_foldl_fiber, hix]
  refine argmin_fold e _ _ (fun p hp => ?_) ?_
  · obtain ⟨n, hn, rfl⟩ := List.mem_map.mp hp
    have hn := of_decide_eq_true (List.mem_filter.mp hn).2
    generalize (⟨2, ![N, 1024]⟩ : Shape).rowMajor.symm n = i at hn ⊢
    obtain ⟨a', k, rfl⟩ : ∃ (a' : Fin N) (k : Fin 1024), i = ix2 a' k := ⟨i 0, i 1, by blk_ext⟩
    rw [drop2] at hn
    obtain rfl : a' = a := congrFun hn 0
    exact ⟨k, by rw [hd, hy]⟩
  · refine List.mem_map.mpr ⟨(⟨2, ![N, 1024]⟩ : Shape).rowMajor (ix2 a (Spec.first e)), List.mem_filter.mpr
      ⟨List.mem_finRange _, decide_eq_true ?_⟩, ?_⟩
    · rw [Equiv.symm_apply_apply, drop2]
    · rw [Equiv.symm_apply_apply, hd, hy]

theorem nearest_of (d : S65536x1024.Idx → EReal) (y : S65536x1024.Idx → BitVec 32) (ix : S_.Idx → EReal) (iy : S_.Idx → BitVec 32)
    (hix : ∀ j, ix j = ⊤) (hy : ∀ (a : Fin 65536) (k : Fin 1024), y (ix2 a k) = BitVec.ofNat 32 k.val)
    (a : Fin 65536) (e : Fin 1024 → ℝ) (hd : ∀ k, d (ix2 a k) = (e k : EReal)) :
    (Host.argReduce (F := Ideal) (φ := .f32) reducer_argmin_f32_i32 d y ix iy reducesTo_S65536x1024_S65536_d1 h_S_ (ix1 a)).2
      = BitVec.ofNat 32 (Spec.first e).val :=
  congrArg Prod.snd (argmin_row _ _ d y ix iy hix hy a e hd)

theorem column_eq (a : Fin 65536) (k : Fin 1024) : iotaInDim S65536x1024 32 1 (ix2 a k) = BitVec.ofNat 32 k.val := by
  pointwise

theorem top_eq (j : S_.Idx) : constant (F := Ideal) S_ .f32 0x7F800000#32 j = (⊤ : EReal) := by
  show Ideal.ofBits .f32 2139095040#32 = ⊤
  simp [Ideal.ofBits, Ideal.ieee]

/-- The search as a function of the row. -/
theorem nearest_def (d : Arr Ideal S65536x1024 .f32) : nearest d = fun j =>
    (Host.argReduce (F := Ideal) (φ := .f32) reducer_argmin_f32_i32 d (iotaInDim S65536x1024 32 1)
      (constant (F := Ideal) S_ .f32 0x7F800000#32) (constantI S_ 32 0#32) reducesTo_S65536x1024_S65536_d1 h_S_ j).2 := rfl

/-- The index of a row's nearest word. -/
theorem nearest_eq (d : Arr Ideal S65536x1024 .f32) (a : Fin 65536) (e : Fin 1024 → ℝ)
    (hd : ∀ k, d (ix2 a k) = (e k : EReal)) : nearest d (ix1 a) = BitVec.ofNat 32 (Spec.first e).val :=
  (congrFun (nearest_def d) (ix1 a)).trans
    (nearest_of d (iotaInDim S65536x1024 32 1) (constant (F := Ideal) S_ .f32 0x7F800000#32) (constantI S_ 32 0#32) top_eq column_eq a e hd)

/-! ## Words, counts, places -/

variable (idx : Fin 65536 → Fin 1024)

/-- An index among the words is taken as it is. -/
theorem wrapped_eq (i : Arr Ideal S65536 .i32) (hi : ∀ a, i (ix1 a) = BitVec.ofNat 32 (idx a).val) (a : Fin 65536) :
    wrapped i (ix2 a 0) = BitVec.ofNat 32 (idx a).val := by
  have h : ¬ (IntOp.cmpi .slt (BitVec.ofNat 32 (idx a).val) 0#32 = 1#1) := by
    show ¬ (BitVec.ofBool ((BitVec.ofNat 32 (idx a).val).slt (BitVec.ofNat 32 0)) = 1#1)
    rw [StableHlo.Predicate.slt_ofNat_iff _ _ (by omega) (by omega)]
    omega
  pointwise [wrapped]
  rw [hi, Scalar.select]
  exact if_neg h

/-- The words at the indices. -/
theorem words_eq (cb : Arr Ideal S1024x64 .f32) (i : Arr Ideal S65536 .i32)
    (hi : ∀ a, i (ix1 a) = BitVec.ofNat 32 (idx a).val) (b : Fin 16) (t : Fin 4096) (c : Fin 64) :
    words cb i (ix3 b t c) = cb (ix2 (idx ⟨b.val * 4096 + t.val, by omega⟩) c) := by
  pointwise [words]
  exact Idealize.ShloMosaic.Routing.gather_row gather_S1024x64_S65536x1_S65536x64_1_0_n_n_0_1_164 rfl rfl rfl rfl rfl cb (wrapped i) _ c _
    (wrapped_eq idx i hi _) (by norm_num)

/-- An update of one number lands where its index, read signed, says. -/
theorem lands {M N : ℕ} (d : ScatterDims ⟨1, ![M]⟩ ⟨2, ![N, 1]⟩ ⟨1, ![N]⟩) (hw : d.insertedWindowDims = [0])
    (hs : d.scatterDimsToOperandDims = [0]) (hv : d.indexVectorDim = 1) (w : IVec ⟨2, ![N, 1]⟩ 32) (i : Fin N) (x : Fin M) :
    d.resultIdx? (ix1 i) w = some (ix1 x) ↔ (w (ix2 i 0)).toInt = (x.val : Int) := by
  have hm : (0 : Fin 1) ∈ d.scatterDimsToOperandDims := by simp [hs]
  have h₀ : d.window (ix1 i) 0 = 0 := dif_neg fun h => by
    have := (List.mem_filter.mp h).2
    simp [hw] at this
  have h₁ : d.siIdx (ix1 i) ⟨d.scatterDimsToOperandDims.idxOf 0, List.idxOf_lt_length_iff.2 hm⟩ = ix2 i 0 := by
    funext b
    match b with
    | ⟨0, _⟩ =>
      refine Fin.ext ?_
      unfold ScatterDims.siIdx
      rw [dif_neg (by simp [hv])]
      show (ix1 i _ : Fin _).val = i.val
      exact congrArg (fun X : Fin 1 => (ix1 i X).val) (Subsingleton.elim _ 0)
    | ⟨1, _⟩ => exact Subsingleton.elim (α := Fin 1) _ _
  have h₂ : d.start (ix1 i) w 0 = (w (ix2 i 0)).toInt := (dif_pos hm).trans (by rw [h₁])
  refine (Idealize.ShloMosaic.Routing.resultIdx?_ix1 d _ w x).trans ?_
  rw [h₀, h₂]
  simp

/-- Numbers added where their indices say. -/
theorem added {M N : ℕ} (d : ScatterDims ⟨1, ![M]⟩ ⟨2, ![N, 1]⟩ ⟨1, ![N]⟩) (hw : d.insertedWindowDims = [0])
    (hs : d.scatterDimsToOperandDims = [0]) (hv : d.indexVectorDim = 1) (x : (⟨1, ![M]⟩ : Shape).Idx → EReal)
    (w : IVec ⟨2, ![N, 1]⟩ 32) (u : (⟨1, ![N]⟩ : Shape).Idx → EReal) (j : Fin M) :
    Ideal.hostScatterAdd d x w u (ix1 j)
      = x (ix1 j) + ∑ a : Fin N, if (w (ix2 a 0)).toInt = (j.val : Int) then u (ix1 a) else 0 := by
  unfold Ideal.hostScatterAdd
  rw [Finset.sum_filter]
  congr 1
  refine (Fintype.sum_bijective (fun a : Fin N => (ix1 a : (⟨1, ![N]⟩ : Shape).Idx))
    ⟨fun a b h => congrFun h 0, fun z => ⟨z 0, by blk_ext⟩⟩ _ _ fun a => ?_).symm
  simp only [lands d hw hs hv w a j]

/-- How often a word is chosen. -/
theorem countsOf_eq (i : Arr Ideal S65536 .i32) (hi : ∀ a, i (ix1 a) = BitVec.ofNat 32 (idx a).val) (j : Fin 1024) :
    countsOf i (ix1 j) = ((∑ a, if idx a = j then 1 else 0 : ℝ) : EReal) := by
  refine (added scatter_S1024_S65536x1_S65536_n_0_0_1 rfl rfl rfl _ (wrapped i) _ j).trans ?_
  have h : ∀ a : Fin 65536, (if (wrapped i (ix2 a 0)).toInt = (j.val : Int) then Ideal.ofBits .f32 1065353216#32 else 0)
      = (((if idx a = j then 1 else 0 : ℝ)) : EReal) := fun a => by
    rw [wrapped_eq idx i hi a, StableHlo.Predicate.toInt_ofNat_small _ (by omega)]
    have e : ((idx a).val : Int) = (j.val : Int) ↔ idx a = j := by rw [Nat.cast_inj, Fin.ext_iff]
    have one : Ideal.ofBits .f32 1065353216#32 = ((1 : ℝ) : EReal) := by
      simp [Ideal.ofBits, Ideal.ieee, -EReal.coe_mul]; norm_num
    simp only [e, one]
    split <;> simp
  have z : Ideal.ofBits .f32 0#32 = 0 := by simp [Ideal.ofBits, Ideal.ieee]
  rw [Spec.coe_sum]
  refine (congrArg₂ (· + ·) z (Finset.sum_congr rfl fun a _ => h a)).trans ?_
  simp only [zero_add]

/-- The counter of trip `k`. -/
theorem ctr_toInt (k : ℕ) (hk : k < 8) : (Scf.iv 0#32 1#32 k).toInt = k := by
  interval_cases k <;> decide

/-- The codebook of trip `k`. -/
theorem book_eq (cbs : Arr Ideal S8x1024x64 .f32) (k : ℕ) (hk : k < 8) (a : Fin 1024) (b : Fin 64) :
    book cbs (ctr Ideal k) (ix2 a b) = cbs (ix3 (Fin.ofNat 8 k) a b) := by
  pointwise [book]
  have hf : ∃ f : Fin 3 → Int, f = (fun a => BitVec.toInt ((![ctr Ideal k, constantI S_ 32 0#32, constantI S_ 32 0#32] :
      Fin 3 → Arr Ideal S_ .i32) a (Shape.Idx.first h_S_))) ∧ f 0 = (k : Int) ∧ f 1 = (0 : ℕ) ∧ f 2 = (0 : ℕ) :=
    ⟨_, rfl, ctr_toInt k hk, rfl, rfl⟩
  obtain ⟨f, hf, h₀, h₁, h₂⟩ := hf
  simp only [← hf]
  congr 1
  have c₀ := Host.clampedStart_of_le (s := S8x1024x64) (t := S1x1024x64) rfl f 0 k h₀ (by show k + 1 ≤ 8; omega)
  have c₁ := Host.clampedStart_of_le (s := S8x1024x64) (t := S1x1024x64) rfl f 1 0 h₁ (by show 0 + 1024 ≤ 1024; omega)
  have c₂ := Host.clampedStart_of_le (s := S8x1024x64) (t := S1x1024x64) rfl f 2 0 h₂ (by show 0 + 64 ≤ 64; omega)
  simp only [c₀, c₁, c₂, Nat.zero_add]
  rw [show Fin.ofNat 8 k = ⟨k, hk⟩ from Fin.ext (Nat.mod_eq_of_lt hk)]

/-- A scalar put at place `k`. -/
theorem put_eq (xs : Arr Ideal S8 .f32) (x : Arr Ideal S_ .f32) (k : ℕ) (hk : k < 8) (j : Fin 8) :
    put xs x (ctr Ideal k) (ix1 j) = if j.val = k then x ix0 else xs (ix1 j) := by
  pointwise [put]
  rw [Host.clampedStart_of_le (s := S8) (t := S1) _ _ 0 k (ctr_toInt k hk) (by show k + 1 ≤ 8; omega)]
  by_cases h : j.val = k
  · rw [dif_pos (by omega), if_pos h]
  · rw [dif_neg (by omega), if_neg h]

end Cert.Ref

end
-- ==== Proof.RefIdeal.lean ====
/- The reference over the extended reals: from real inputs its three results are the specification's.
   Hand-written, untrusted. -/
module

public import proofs.«01_k».proof.Proof.RefOps

@[expose] public section

set_option maxRecDepth 16384

noncomputable section

namespace Cert.Ref

open Cert.ReferenceIdeal Cert.ReferenceIdeal.Gen
open Idealize.ShloMosaic Idealize.ShloMosaic.TcCoe Idealize.SL.Sem Idealize.ShloMosaic.StableHlo

/-! ## A trip's parts on real numbers -/

theorem two : Ideal.ofBits .f32 1073741824#32 = ((2 : ℝ) : EReal) := by
  simp [Ideal.ofBits, Ideal.ieee, -EReal.coe_mul]; norm_num

theorem dist_eq (x : Arr Ideal S65536x64 .f32) (cb : Arr Ideal S1024x64 .f32) (w : Spec.Words) (r : Fin 64 → ℝ) (a : Fin 65536)
    (hx : ∀ i, x (ix2 a i) = (r i : EReal)) (hw : ∀ j i, cb (ix2 j i) = (w j i : EReal)) (b : Fin 1024) :
    dist x cb (ix2 a b) = (Spec.dist w r b : EReal) := by
  pointwise [dist]
  simp only [hx, hw, two, ← EReal.coe_mul, ← EReal.coe_add, ← EReal.coe_sub, ← Spec.coe_sum, Spec.dist, two_mul]

theorem flat_eq (x : Arr Ideal S16x4096x64 .f32) (v : ℕ → Fin 64 → ℝ)
    (hx : ∀ b t i, x (ix3 b t i) = (v (b.val * 4096 + t.val) i : EReal)) (a : Fin 65536) (i : Fin 64) :
    flat x (ix2 a i) = (v a.val i : EReal) := by
  pointwise [flat]
  rw [hx]
  simp only [Nat.div_add_mod']

theorem lossOf_eq (x q : Arr Ideal S16x4096x64 .f32) (v : ℕ → Fin 64 → ℝ)
    (h : ∀ b t i, q (ix3 b t i) - x (ix3 b t i) = (-v (b.val * 4096 + t.val) i : ℝ)) (j : S_.Idx) :
    lossOf x q j = ((∑ n : Fin 65536, ∑ i, v n.val i * v n.val i) / 4194304 : ℝ) := by
  pointwise [lossOf]
  simp only [h, ← EReal.coe_mul, neg_mul_neg, ← Spec.coe_sum, Spec.million]
  rw [Spec.sum_batches fun n => ∑ i, v n i * v n i, Ideal.div_coe (by norm_num), ← EReal.coe_mul, mul_one_div]

/-- The exponential of the entropy of how often the words are chosen. -/
def perplexity (n : Fin 1024 → ℝ) : EReal :=
  Ideal.exp (0 - ∑ j, Ideal.div (n j : EReal) (Ideal.ofBits .f32 1199570944#32) *
    Ideal.log (Ideal.div (n j : EReal) (Ideal.ofBits .f32 1199570944#32) + Ideal.ofBits .f32 786163455#32))

theorem perpOf_eq (p : Arr Ideal S1024 .f32) (n : Fin 1024 → ℝ) (h : ∀ j, p (ix1 j) = (n j : EReal)) (j : S_.Idx) :
    perpOf (freqOf p) j = perplexity n := by
  pointwise [perpOf, freqOf]
  simp only [h, perplexity, zero_sub]

/-! ## The trips -/

/-- The state before trip `k`. -/
structure Holds (z : Fin 16 → Fin 64 → Fin 4096 → ℝ) (C : Fin 8 → Spec.Words) (k : ℕ) (s : State Ideal) : Prop where
  res : ∀ b t i, s.res (ix3 b t i) = (Spec.left C (Spec.token z (b.val * 4096 + t.val)) k i : EReal)
  sum : ∀ b t i, s.sum (ix3 b t i) = (Spec.got C (Spec.token z (b.val * 4096 + t.val)) k i : EReal)
  losses : ∀ j : Fin 8, j.val < k →
    s.losses (ix1 j) = ((∑ n : Fin 65536, Spec.err C (Spec.token z n.val) (j.val + 1)) / 4194304 : ℝ)
  perps : ∀ j : Fin 8, j.val < k → s.perps (ix1 j) = perplexity (Spec.count C (fun n : Fin 65536 => Spec.token z n.val) j)

variable {z : Fin 16 → Fin 64 → Fin 4096 → ℝ} {C : Fin 8 → Spec.Words}

theorem holds_start (x : Arr Ideal S16x64x4096 .f32) (hx : ∀ b i t, x (ix3 b i t) = (z b i t : EReal)) : Holds z C 0 (start x) where
  res b t i := by
    pointwise [start]
    rw [hx]
    have e := Spec.token_eq z ⟨b.val * 4096 + t.val, by omega⟩ i
    have h₁ : (b.val * 4096 + t.val) / 4096 = b.val := by omega
    have h₂ : (b.val * 4096 + t.val) % 4096 = t.val := by omega
    simp only [h₁, h₂] at e
    show _ = ((Spec.token z (b.val * 4096 + t.val) i : ℝ) : EReal)
    rw [e]
  sum b t i := by
    pointwise [start]
    show _ = ((0 : ℝ) : EReal)
    simp [Ideal.ofBits, Ideal.ieee]
  losses j h := absurd h (Nat.not_lt_zero _)
  perps j h := absurd h (Nat.not_lt_zero _)

theorem chosen_eq (cb : Arr Ideal S1024x64 .f32) (k : ℕ) (hw : ∀ j i, cb (ix2 j i) = (C (Fin.ofNat 8 k) j i : EReal))
    (s : State Ideal) (hs : Holds z C k s) (a : Fin 65536) :
    chosen cb s.res (ix1 a) = BitVec.ofNat 32 (Spec.pick C (Spec.token z a.val) k).val :=
  nearest_eq _ a _ fun j => dist_eq _ cb (C (Fin.ofNat 8 k)) (Spec.left C (Spec.token z a.val) k) a
    (fun i => flat_eq s.res (fun n => Spec.left C (Spec.token z n) k) hs.res a i) hw j

theorem holds_step (cbs : Arr Ideal S8x1024x64 .f32) (hC : ∀ s j i, cbs (ix3 s j i) = (C s j i : EReal)) (k : ℕ) (hk : k < 8)
    (s : State Ideal) (hs : Holds z C k s) : Holds z C (k + 1) (step cbs (ctr Ideal k) s) := by
  have hw : ∀ j i, book cbs (ctr Ideal k) (ix2 j i) = (C (Fin.ofNat 8 k) j i : EReal) := fun j i => by rw [book_eq cbs k hk, hC]
  have hc := chosen_eq (book cbs (ctr Ideal k)) k hw s hs
  have hq : ∀ b t i, words (book cbs (ctr Ideal k)) (chosen (book cbs (ctr Ideal k)) s.res) (ix3 b t i)
      = (C (Fin.ofNat 8 k) (Spec.pick C (Spec.token z (b.val * 4096 + t.val)) k) i : EReal) := fun b t i => by
    rw [words_eq (fun a => Spec.pick C (Spec.token z a.val) k) _ _ hc, hw]
  have ht : ∀ b t i, through s.res (words (book cbs (ctr Ideal k)) (chosen (book cbs (ctr Ideal k)) s.res)) (ix3 b t i)
      = (C (Fin.ofNat 8 k) (Spec.pick C (Spec.token z (b.val * 4096 + t.val)) k) i : EReal) := fun b t i => by
    pointwise [through]
    rw [hq, hs.res, ← EReal.coe_sub, ← EReal.coe_add]
    congr 1
    ring
  refine ⟨fun b t i => ?_, fun b t i => ?_, fun j hj => ?_, fun j hj => ?_⟩
  · show subf _ _ (ix3 b t i) = _
    pointwise
    rw [ht, hs.res, ← EReal.coe_sub, Spec.left_succ]
  · show addf _ _ (ix3 b t i) = _
    pointwise
    rw [ht, hs.sum, ← EReal.coe_add]
    rfl
  · show put _ _ _ (ix1 j) = _
    rw [put_eq _ _ k hk]
    split
    · next e =>
      rw [lossOf_eq s.res _ (fun n => Spec.left C (Spec.token z n) (k + 1)) (fun b t i => by
        rw [hq, hs.res, ← EReal.coe_sub, Spec.left_succ, neg_sub]), e]
      rfl
    · next e => exact hs.losses j (by omega)
  · show put _ _ _ (ix1 j) = _
    rw [put_eq _ _ k hk]
    split
    · next e =>
      refine perpOf_eq _ _ (fun w => ?_) _
      rw [countsOf_eq (fun a => Spec.pick C (Spec.token z a.val) k) _ hc]
      rw [← e]
      rfl
    · next e => exact hs.perps j (by omega)

theorem holds_all (x : Arr Ideal S16x64x4096 .f32) (hx : ∀ b i t, x (ix3 b i t) = (z b i t : EReal))
    (cbs : Arr Ideal S8x1024x64 .f32) (hC : ∀ s j i, cbs (ix3 s j i) = (C s j i : EReal)) :
    ∀ k, k ≤ 8 → Holds z C k (states x cbs k)
  | 0, _ => holds_start x hx
  | k + 1, h => holds_step cbs hC k h _ (holds_all x hx cbs hC k (Nat.le_of_succ_le h))

/-! ## The results -/

theorem outSum_eq (s : State Ideal) (hs : Holds z C 8 s) : outSum s = Spec.outSum z C := by
  funext y
  obtain ⟨b, i, t, rfl⟩ : ∃ (b : Fin 16) (i : Fin 64) (t : Fin 4096), y = ix3 b i t := ⟨y 0, y 1, y 2, by blk_ext⟩
  pointwise [outSum]
  rw [hs.sum, Nat.mul_comm]
  rfl

theorem quarter : Ideal.ofBits .f32 1067450368#32 = ((5 / 4 : ℝ) : EReal) := by
  simp [Ideal.ofBits, Ideal.ieee, -EReal.coe_mul]; norm_num

theorem outLoss_eq (s : State Ideal) (hs : Holds z C 8 s) : outLoss s = Spec.outLoss z C := by
  funext y
  pointwise [outLoss]
  simp only [fun k : Fin 8 => hs.losses k k.isLt, ← Spec.coe_sum, quarter, ← EReal.coe_mul]
  unfold Spec.outLoss Spec.lost
  congr 1
  simp only [Finset.sum_range]
  rw [Finset.sum_comm, ← Finset.sum_div, mul_div_assoc]

theorem outPerp_eq (s : State Ideal) (hs : Holds z C 8 s) : outPerp s = Spec.outPerp z C := by
  funext y
  pointwise [outPerp]
  simp only [fun k : Fin 8 => hs.perps k k.isLt]
  rfl

/-- From real inputs the reference ends with the specification's three results, its arguments unchanged. -/
theorem run_spec (m : (ℓ : Loc nD τ sig) → Buf (Elt Ideal) ℓ) (ρ : Dev nD → PrngReg)
    (z : Dev nD → Fin 16 → Fin 64 → Fin 4096 → ℝ) (C : Dev nD → Fin 8 → Spec.Words)
    (hz : ∀ (c : Dev nD) b i t, argZ m c (ix3 b i t) = (z c b i t : EReal))
    (hC : ∀ (c : Dev nD) s j i, argC m c (ix3 s j i) = (C c s j i : EReal)) :
    θ_run (defs (F := Ideal)) (onTc (τ := τ) (main (F := Ideal))) ⟨m, fun _ => 0, ρ⟩ fun r => ∀ c : Dev nD,
      r.2.mem ((c.tc : Thread nD τ).loc main_v5) = Spec.outSum (z c) (C c)
      ∧ r.2.mem ((c.tc : Thread nD τ).loc main_v7) = Spec.outLoss (z c) (C c)
      ∧ r.2.mem ((c.tc : Thread nD τ).loc main_v9) = Spec.outPerp (z c) (C c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run m ρ)
  obtain ⟨h₀, h₁, h₂, h₃⟩ := h c
  have hs := holds_all (argZ m c) (hz c) (argC m c) (hC c) 8 le_rfl
  exact ⟨h₀.trans (outSum_eq _ hs), h₁.trans (outLoss_eq _ hs), h₂.trans (outPerp_eq _ hs), h₃⟩

end Cert.Ref

end
-- ==== Proof.lean ====
/- The proof of the certificate's claim. Hand-written, untrusted. -/
module

public import proofs.«01_k».proof.Defs
public import proofs.«01_k».proof.Proof.Gen.Kernel.Frame
public import proofs.«01_k».proof.Proof.Gen.KernelIdeal.Frame
public import proofs.«01_k».proof.Proof.KerEnd
public import proofs.«01_k».proof.Proof.RefIdeal

@[expose] public section

noncomputable section

namespace Cert.Proof

open Idealize.ShloMosaic Idealize.SL.Sem

/-- The side conditions of the precondition's function. -/
theorem finite_facts : Cert.Pre_finite.Facts := ⟨by decide, by decide⟩

/-- An extended real whose magnitude is below the top is a real number. -/
theorem real_of_lt (x : EReal) (h : Ideal.cmp .olt (max x (-x)) (Ideal.ofBits .f32 0x7F800000#32) = 1#1) :
    ((x.toReal : ℝ) : EReal) = x := by
  have top : Ideal.ofBits .f32 0x7F800000#32 = ⊤ := by simp [Ideal.ofBits, Ideal.ieee]
  rw [top] at h
  refine EReal.coe_toReal (fun e => ?_) (fun e => ?_) <;> subst e <;> simp [Ideal.cmp] at h

/-- From finite arguments the two programs end with the same three results: the specification's. -/
theorem same : Cert.algebraic_KernelIdeal_ReferenceIdeal_pre_finite (hKernelIdeal := Cert.KernelIdeal.Gen.facts)
    (hReferenceIdeal := Cert.ReferenceIdeal.Gen.facts) (hPre_finite := finite_facts) := by
  intro m g m' g' hfin hargs
  have hz : ∀ (c : Dev Cert.KernelIdeal.nD) (y : Cert.KernelIdeal.S16x64x4096.Idx),
      (((m ((c.tc : Thread Cert.KernelIdeal.nD Cert.KernelIdeal.τ).loc Cert.KernelIdeal.main_arg0) y : EReal).toReal : ℝ) : EReal)
        = m ((c.tc : Thread Cert.KernelIdeal.nD Cert.KernelIdeal.τ).loc Cert.KernelIdeal.main_arg0) y :=
    fun c y => real_of_lt _ (congrFun (hfin c).1 y)
  have hC : ∀ (c : Dev Cert.KernelIdeal.nD) (y : Cert.KernelIdeal.S8x1024x64.Idx),
      (((m ((c.tc : Thread Cert.KernelIdeal.nD Cert.KernelIdeal.τ).loc Cert.KernelIdeal.main_arg1) y : EReal).toReal : ℝ) : EReal)
        = m ((c.tc : Thread Cert.KernelIdeal.nD Cert.KernelIdeal.τ).loc Cert.KernelIdeal.main_arg1) y :=
    fun c y => real_of_lt _ (congrFun (hfin c).2 y)
  refine ⟨_, _, _, Cert.Ker.run g _ _ (fun c b i t => (hz c (ix3 b i t)).symm) (fun c s j i => (hC c (ix3 s j i)).symm), ?_⟩
  exact Cert.Ref.run_spec m' g' _ _ (fun c b i t => (congrFun (hargs c).1 (ix3 b i t)).trans (hz c (ix3 b i t)).symm)
    (fun c s j i => (congrFun (hargs c).2 (ix3 s j i)).trans (hC c (ix3 s j i)).symm)

theorem claim : Cert.Claim := ⟨Cert.Kernel.Gen.facts, Cert.KernelIdeal.Gen.facts, Cert.ReferenceIdeal.Gen.facts, finite_facts,
  fun m ρ _ => Cert.Kernel.Gen.frame m ρ, fun m ρ _ => Cert.KernelIdeal.Gen.frame m ρ, fun m ρ _ => Cert.KernelIdeal.Gen.frame m ρ,
  fun m ρ _ => Cert.Ref.frame m ρ, fun m ρ _ => Cert.Ref.frame m ρ, trivial, same⟩

end Cert.Proof

end
